-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩
abbrev S1024x256x128 : Shape := ⟨3, ![1024, 256, 128]⟩
abbrev S1024x8x128 : Shape := ⟨3, ![1024, 8, 128]⟩
abbrev S8x1024x128 : Shape := ⟨3, ![8, 1024, 128]⟩
abbrev S32x32x1024 : Shape := ⟨3, ![32, 32, 1024]⟩
abbrev S32x1024 : Shape := ⟨2, ![32, 1024]⟩
abbrev S31x32x1024 : Shape := ⟨3, ![31, 32, 1024]⟩
abbrev S31 : Shape := ⟨1, ![31]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x32x1024 : Shape := ⟨3, ![1, 32, 1024]⟩

abbrev nBuf : Space → Nat
  | .hbm => 38
  | .vmem => 11
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x256x128, .bf16⟩
  | .hbm, ⟨3, _⟩ => ⟨S1x1024x256x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S1024x256x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .bf16⟩
  | .hbm, ⟨23, _⟩ => ⟨S1024x256x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .bf16⟩
  | .hbm, ⟨34, _⟩ => ⟨S8x1024x128, .bf16⟩
  | .hbm, ⟨35, _⟩ => ⟨S8x1024x128, .bf16⟩
  | .hbm, ⟨36, _⟩ => ⟨S32x32x1024, .f32⟩
  | .hbm, ⟨37, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024x128, .bf16⟩
  | .local _ .vmem, ⟨3, _⟩ => ⟨S8x1024x128, .bf16⟩
  | .local _ .vmem, ⟨4, _⟩ => ⟨S1024x1024, .bf16⟩
  | .local _ .vmem, ⟨5, _⟩ => ⟨S32x32x1024, .f32⟩
  | .local _ .vmem, ⟨6, _⟩ => ⟨S32x32x1024, .bf16⟩
  | .local _ .vmem, ⟨7, _⟩ => ⟨S1024x1024, .bf16⟩
  | .local _ .vmem, ⟨8, _⟩ => ⟨S32x1024, .bf16⟩
  | .local _ .vmem, ⟨9, _⟩ => ⟨S31x32x1024, .bf16⟩
  | .local _ .vmem, ⟨10, _⟩ => ⟨S31x32x1024, .bf16⟩
  | _, _ => ⟨S1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_234 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v356 : BitVec 32 := Scalar.addi v2 c1_i32_234
  let c32_i32_235 : BitVec 32 := 32#32
  let v357 : BitVec 32 := Scalar.remsi v356 c32_i32_235
  let c0_i32_243 : BitVec 32 := 0#32
  let c0_i32_244 : BitVec 32 := 0#32
  ![v357.toNat, 0, 0]
def k0_dev32 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_234 : BitVec 32 := 1#32
  let v356 : BitVec 32 := Scalar.addi v2 c1_i32_234
  let c32_i32_235 : BitVec 32 := 32#32
  let v357 : BitVec 32 := Scalar.remsi v356 c32_i32_235
  let c1_i32_239 : BitVec 32 := 1#32
  let v358 : BitVec 32 := Scalar.muli v357 c1_i32_239
  let v359 : BitVec 32 := Scalar.addi c0_i32_240 v358
  v359.toNat
def k0_dev33 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_245 : BitVec 32 := 2#32
  let v368 : BitVec 32 := Scalar.addi v2 c2_i32_245
  let c32_i32_246 : BitVec 32 := 32#32
  let v369 : BitVec 32 := Scalar.remsi v368 c32_i32_246
  let c1_i32_250 : BitVec 32 := 1#32
  let v370 : BitVec 32 := Scalar.muli v369 c1_i32_250
  let v371 : BitVec 32 := Scalar.addi c0_i32_251 v370
  v371.toNat
def k0_dev34 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_256 : BitVec 32 := 3#32
  let v380 : BitVec 32 := Scalar.addi v2 c3_i32_256
  let c32_i32_257 : BitVec 32 := 32#32
  let v381 : BitVec 32 := Scalar.remsi v380 c32_i32_257
  let c1_i32_261 : BitVec 32 := 1#32
  let v382 : BitVec 32 := Scalar.muli v381 c1_i32_261
  let v383 : BitVec 32 := Scalar.addi c0_i32_262 v382
  v383.toNat
def k0_dev35 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_267 : BitVec 32 := 4#32
  let v392 : BitVec 32 := Scalar.addi v2 c4_i32_267
  let c32_i32_268 : BitVec 32 := 32#32
  let v393 : BitVec 32 := Scalar.remsi v392 c32_i32_268
  let c1_i32_272 : BitVec 32 := 1#32
  let v394 : BitVec 32 := Scalar.muli v393 c1_i32_272
  let v395 : BitVec 32 := Scalar.addi c0_i32_273 v394
  v395.toNat
def k0_dev36 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_278 : BitVec 32 := 5#32
  let v404 : BitVec 32 := Scalar.addi v2 c5_i32_278
  let c32_i32_279 : BitVec 32 := 32#32
  let v405 : BitVec 32 := Scalar.remsi v404 c32_i32_279
  let c1_i32_283 : BitVec 32 := 1#32
  let v406 : BitVec 32 := Scalar.muli v405 c1_i32_283
  let v407 : BitVec 32 := Scalar.addi c0_i32_284 v406
  v407.toNat
def k0_dev37 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_289 : BitVec 32 := 6#32
  let v416 : BitVec 32 := Scalar.addi v2 c6_i32_289
  let c32_i32_290 : BitVec 32 := 32#32
  let v417 : BitVec 32 := Scalar.remsi v416 c32_i32_290
  let c1_i32_294 : BitVec 32 := 1#32
  let v418 : BitVec 32 := Scalar.muli v417 c1_i32_294
  let v419 : BitVec 32 := Scalar.addi c0_i32_295 v418
  v419.toNat
def k0_dev38 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_300 : BitVec 32 := 7#32
  let v428 : BitVec 32 := Scalar.addi v2 c7_i32_300
  let c32_i32_301 : BitVec 32 := 32#32
  let v429 : BitVec 32 := Scalar.remsi v428 c32_i32_301
  let c1_i32_305 : BitVec 32 := 1#32
  let v430 : BitVec 32 := Scalar.muli v429 c1_i32_305
  let v431 : BitVec 32 := Scalar.addi c0_i32_306 v430
  v431.toNat
def k0_dev39 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_311 : BitVec 32 := 8#32
  let v440 : BitVec 32 := Scalar.addi v2 c8_i32_311
  let c32_i32_312 : BitVec 32 := 32#32
  let v441 : BitVec 32 := Scalar.remsi v440 c32_i32_312
  let c1_i32_316 : BitVec 32 := 1#32
  let v442 : BitVec 32 := Scalar.muli v441 c1_i32_316
  let v443 : BitVec 32 := Scalar.addi c0_i32_317 v442
  v443.toNat
def k0_dev40 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_322 : BitVec 32 := 9#32
  let v452 : BitVec 32 := Scalar.addi v2 c9_i32_322
  let c32_i32_323 : BitVec 32 := 32#32
  let v453 : BitVec 32 := Scalar.remsi v452 c32_i32_323
  let c1_i32_327 : BitVec 32 := 1#32
  let v454 : BitVec 32 := Scalar.muli v453 c1_i32_327
  let v455 : BitVec 32 := Scalar.addi c0_i32_328 v454
  v455.toNat
def k0_dev41 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_333 : BitVec 32 := 10#32
  let v464 : BitVec 32 := Scalar.addi v2 c10_i32_333
  let c32_i32_334 : BitVec 32 := 32#32
  let v465 : BitVec 32 := Scalar.remsi v464 c32_i32_334
  let c1_i32_338 : BitVec 32 := 1#32
  let v466 : BitVec 32 := Scalar.muli v465 c1_i32_338
  let v467 : BitVec 32 := Scalar.addi c0_i32_339 v466
  v467.toNat
def k0_dev42 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_344 : BitVec 32 := 11#32
  let v476 : BitVec 32 := Scalar.addi v2 c11_i32_344
  let c32_i32_345 : BitVec 32 := 32#32
  let v477 : BitVec 32 := Scalar.remsi v476 c32_i32_345
  let c1_i32_349 : BitVec 32 := 1#32
  let v478 : BitVec 32 := Scalar.muli v477 c1_i32_349
  let v479 : BitVec 32 := Scalar.addi c0_i32_350 v478
  v479.toNat
def k0_dev43 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_355 : BitVec 32 := 12#32
  let v488 : BitVec 32 := Scalar.addi v2 c12_i32_355
  let c32_i32_356 : BitVec 32 := 32#32
  let v489 : BitVec 32 := Scalar.remsi v488 c32_i32_356
  let c1_i32_360 : BitVec 32 := 1#32
  let v490 : BitVec 32 := Scalar.muli v489 c1_i32_360
  let v491 : BitVec 32 := Scalar.addi c0_i32_361 v490
  v491.toNat
def k0_dev44 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_366 : BitVec 32 := 13#32
  let v500 : BitVec 32 := Scalar.addi v2 c13_i32_366
  let c32_i32_367 : BitVec 32 := 32#32
  let v501 : BitVec 32 := Scalar.remsi v500 c32_i32_367
  let c1_i32_371 : BitVec 32 := 1#32
  let v502 : BitVec 32 := Scalar.muli v501 c1_i32_371
  let v503 : BitVec 32 := Scalar.addi c0_i32_372 v502
  v503.toNat
def k0_dev45 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_377 : BitVec 32 := 14#32
  let v512 : BitVec 32 := Scalar.addi v2 c14_i32_377
  let c32_i32_378 : BitVec 32 := 32#32
  let v513 : BitVec 32 := Scalar.remsi v512 c32_i32_378
  let c1_i32_382 : BitVec 32 := 1#32
  let v514 : BitVec 32 := Scalar.muli v513 c1_i32_382
  let v515 : BitVec 32 := Scalar.addi c0_i32_383 v514
  v515.toNat
def k0_dev46 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_388 : BitVec 32 := 15#32
  let v524 : BitVec 32 := Scalar.addi v2 c15_i32_388
  let c32_i32_389 : BitVec 32 := 32#32
  let v525 : BitVec 32 := Scalar.remsi v524 c32_i32_389
  let c1_i32_393 : BitVec 32 := 1#32
  let v526 : BitVec 32 := Scalar.muli v525 c1_i32_393
  let v527 : BitVec 32 := Scalar.addi c0_i32_394 v526
  v527.toNat
def k0_dev47 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_399 : BitVec 32 := 16#32
  let v536 : BitVec 32 := Scalar.addi v2 c16_i32_399
  let c32_i32_400 : BitVec 32 := 32#32
  let v537 : BitVec 32 := Scalar.remsi v536 c32_i32_400
  let c1_i32_404 : BitVec 32 := 1#32
  let v538 : BitVec 32 := Scalar.muli v537 c1_i32_404
  let v539 : BitVec 32 := Scalar.addi c0_i32_405 v538
  v539.toNat
def k0_dev48 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_410 : BitVec 32 := 17#32
  let v548 : BitVec 32 := Scalar.addi v2 c17_i32_410
  let c32_i32_411 : BitVec 32 := 32#32
  let v549 : BitVec 32 := Scalar.remsi v548 c32_i32_411
  let c1_i32_415 : BitVec 32 := 1#32
  let v550 : BitVec 32 := Scalar.muli v549 c1_i32_415
  let v551 : BitVec 32 := Scalar.addi c0_i32_416 v550
  v551.toNat
def k0_dev49 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_421 : BitVec 32 := 18#32
  let v560 : BitVec 32 := Scalar.addi v2 c18_i32_421
  let c32_i32_422 : BitVec 32 := 32#32
  let v561 : BitVec 32 := Scalar.remsi v560 c32_i32_422
  let c1_i32_426 : BitVec 32 := 1#32
  let v562 : BitVec 32 := Scalar.muli v561 c1_i32_426
  let v563 : BitVec 32 := Scalar.addi c0_i32_427 v562
  v563.toNat
def k0_dev50 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_432 : BitVec 32 := 19#32
  let v572 : BitVec 32 := Scalar.addi v2 c19_i32_432
  let c32_i32_433 : BitVec 32 := 32#32
  let v573 : BitVec 32 := Scalar.remsi v572 c32_i32_433
  let c1_i32_437 : BitVec 32 := 1#32
  let v574 : BitVec 32 := Scalar.muli v573 c1_i32_437
  let v575 : BitVec 32 := Scalar.addi c0_i32_438 v574
  v575.toNat
def k0_dev51 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_443 : BitVec 32 := 20#32
  let v584 : BitVec 32 := Scalar.addi v2 c20_i32_443
  let c32_i32_444 : BitVec 32 := 32#32
  let v585 : BitVec 32 := Scalar.remsi v584 c32_i32_444
  let c1_i32_448 : BitVec 32 := 1#32
  let v586 : BitVec 32 := Scalar.muli v585 c1_i32_448
  let v587 : BitVec 32 := Scalar.addi c0_i32_449 v586
  v587.toNat
def k0_dev52 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_454 : BitVec 32 := 21#32
  let v596 : BitVec 32 := Scalar.addi v2 c21_i32_454
  let c32_i32_455 : BitVec 32 := 32#32
  let v597 : BitVec 32 := Scalar.remsi v596 c32_i32_455
  let c1_i32_459 : BitVec 32 := 1#32
  let v598 : BitVec 32 := Scalar.muli v597 c1_i32_459
  let v599 : BitVec 32 := Scalar.addi c0_i32_460 v598
  v599.toNat
def k0_dev53 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_465 : BitVec 32 := 22#32
  let v608 : BitVec 32 := Scalar.addi v2 c22_i32_465
  let c32_i32_466 : BitVec 32 := 32#32
  let v609 : BitVec 32 := Scalar.remsi v608 c32_i32_466
  let c1_i32_470 : BitVec 32 := 1#32
  let v610 : BitVec 32 := Scalar.muli v609 c1_i32_470
  let v611 : BitVec 32 := Scalar.addi c0_i32_471 v610
  v611.toNat
def k0_dev54 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_476 : BitVec 32 := 23#32
  let v620 : BitVec 32 := Scalar.addi v2 c23_i32_476
  let c32_i32_477 : BitVec 32 := 32#32
  let v621 : BitVec 32 := Scalar.remsi v620 c32_i32_477
  let c1_i32_481 : BitVec 32 := 1#32
  let v622 : BitVec 32 := Scalar.muli v621 c1_i32_481
  let v623 : BitVec 32 := Scalar.addi c0_i32_482 v622
  v623.toNat
def k0_dev55 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_487 : BitVec 32 := 24#32
  let v632 : BitVec 32 := Scalar.addi v2 c24_i32_487
  let c32_i32_488 : BitVec 32 := 32#32
  let v633 : BitVec 32 := Scalar.remsi v632 c32_i32_488
  let c1_i32_492 : BitVec 32 := 1#32
  let v634 : BitVec 32 := Scalar.muli v633 c1_i32_492
  let v635 : BitVec 32 := Scalar.addi c0_i32_493 v634
  v635.toNat
def k0_dev56 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_498 : BitVec 32 := 25#32
  let v644 : BitVec 32 := Scalar.addi v2 c25_i32_498
  let c32_i32_499 : BitVec 32 := 32#32
  let v645 : BitVec 32 := Scalar.remsi v644 c32_i32_499
  let c1_i32_503 : BitVec 32 := 1#32
  let v646 : BitVec 32 := Scalar.muli v645 c1_i32_503
  let v647 : BitVec 32 := Scalar.addi c0_i32_504 v646
  v647.toNat
def k0_dev57 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_509 : BitVec 32 := 26#32
  let v656 : BitVec 32 := Scalar.addi v2 c26_i32_509
  let c32_i32_510 : BitVec 32 := 32#32
  let v657 : BitVec 32 := Scalar.remsi v656 c32_i32_510
  let c1_i32_514 : BitVec 32 := 1#32
  let v658 : BitVec 32 := Scalar.muli v657 c1_i32_514
  let v659 : BitVec 32 := Scalar.addi c0_i32_515 v658
  v659.toNat
def k0_dev58 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_520 : BitVec 32 := 27#32
  let v668 : BitVec 32 := Scalar.addi v2 c27_i32_520
  let c32_i32_521 : BitVec 32 := 32#32
  let v669 : BitVec 32 := Scalar.remsi v668 c32_i32_521
  let c1_i32_525 : BitVec 32 := 1#32
  let v670 : BitVec 32 := Scalar.muli v669 c1_i32_525
  let v671 : BitVec 32 := Scalar.addi c0_i32_526 v670
  v671.toNat
def k0_dev59 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_531 : BitVec 32 := 28#32
  let v680 : BitVec 32 := Scalar.addi v2 c28_i32_531
  let c32_i32_532 : BitVec 32 := 32#32
  let v681 : BitVec 32 := Scalar.remsi v680 c32_i32_532
  let c1_i32_536 : BitVec 32 := 1#32
  let v682 : BitVec 32 := Scalar.muli v681 c1_i32_536
  let v683 : BitVec 32 := Scalar.addi c0_i32_537 v682
  v683.toNat
def k0_dev60 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_542 : BitVec 32 := 29#32
  let v692 : BitVec 32 := Scalar.addi v2 c29_i32_542
  let c32_i32_543 : BitVec 32 := 32#32
  let v693 : BitVec 32 := Scalar.remsi v692 c32_i32_543
  let c1_i32_547 : BitVec 32 := 1#32
  let v694 : BitVec 32 := Scalar.muli v693 c1_i32_547
  let v695 : BitVec 32 := Scalar.addi c0_i32_548 v694
  v695.toNat
def k0_dev61 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_553 : BitVec 32 := 30#32
  let v704 : BitVec 32 := Scalar.addi v2 c30_i32_553
  let c32_i32_554 : BitVec 32 := 32#32
  let v705 : BitVec 32 := Scalar.remsi v704 c32_i32_554
  let c1_i32_558 : BitVec 32 := 1#32
  let v706 : BitVec 32 := Scalar.muli v705 c1_i32_558
  let v707 : BitVec 32 := Scalar.addi c0_i32_559 v706
  v707.toNat
def k0_dev62 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_564 : BitVec 32 := 31#32
  let v716 : BitVec 32 := Scalar.addi v2 c31_i32_564
  let c32_i32_565 : BitVec 32 := 32#32
  let v717 : BitVec 32 := Scalar.remsi v716 c32_i32_565
  let c1_i32_569 : BitVec 32 := 1#32
  let v718 : BitVec 32 := Scalar.muli v717 c1_i32_569
  let v719 : BitVec 32 := Scalar.addi c0_i32_570 v718
  v719.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v728 : Index := Scalar.indexCast v2
  let c0_575 : Index := 0#32
  let c0_576 : Index := 0#32
  ![v728.toNat, 0, 0]
def k0_dev63 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_959 : BitVec 32 := 1#32
  let v1108 : BitVec 32 := Scalar.addi v2 c1_i32_959
  let c32_i32_960 : BitVec 32 := 32#32
  let v1109 : BitVec 32 := Scalar.remsi v1108 c32_i32_960
  let c1_i32_964 : BitVec 32 := 1#32
  let v1110 : BitVec 32 := Scalar.muli v1109 c1_i32_964
  let v1111 : BitVec 32 := Scalar.addi c0_i32_965 v1110
  v1111.toNat
def k0_dev64 (d0 : Dev nD) : Nat :=
  let c0_i32_974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_968 : BitVec 32 := 2#32
  let v1118 : BitVec 32 := Scalar.addi v2 c2_i32_968
  let c32_i32_969 : BitVec 32 := 32#32
  let v1119 : BitVec 32 := Scalar.remsi v1118 c32_i32_969
  let c1_i32_973 : BitVec 32 := 1#32
  let v1120 : BitVec 32 := Scalar.muli v1119 c1_i32_973
  let v1121 : BitVec 32 := Scalar.addi c0_i32_974 v1120
  v1121.toNat
def k0_dev65 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_977 : BitVec 32 := 3#32
  let v1128 : BitVec 32 := Scalar.addi v2 c3_i32_977
  let c32_i32_978 : BitVec 32 := 32#32
  let v1129 : BitVec 32 := Scalar.remsi v1128 c32_i32_978
  let c1_i32_982 : BitVec 32 := 1#32
  let v1130 : BitVec 32 := Scalar.muli v1129 c1_i32_982
  let v1131 : BitVec 32 := Scalar.addi c0_i32_983 v1130
  v1131.toNat
def k0_dev66 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_986 : BitVec 32 := 4#32
  let v1138 : BitVec 32 := Scalar.addi v2 c4_i32_986
  let c32_i32_987 : BitVec 32 := 32#32
  let v1139 : BitVec 32 := Scalar.remsi v1138 c32_i32_987
  let c1_i32_991 : BitVec 32 := 1#32
  let v1140 : BitVec 32 := Scalar.muli v1139 c1_i32_991
  let v1141 : BitVec 32 := Scalar.addi c0_i32_992 v1140
  v1141.toNat
def k0_dev67 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_995 : BitVec 32 := 5#32
  let v1148 : BitVec 32 := Scalar.addi v2 c5_i32_995
  let c32_i32_996 : BitVec 32 := 32#32
  let v1149 : BitVec 32 := Scalar.remsi v1148 c32_i32_996
  let c1_i32_1000 : BitVec 32 := 1#32
  let v1150 : BitVec 32 := Scalar.muli v1149 c1_i32_1000
  let v1151 : BitVec 32 := Scalar.addi c0_i32_1001 v1150
  v1151.toNat
def k0_dev68 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1004 : BitVec 32 := 6#32
  let v1158 : BitVec 32 := Scalar.addi v2 c6_i32_1004
  let c32_i32_1005 : BitVec 32 := 32#32
  let v1159 : BitVec 32 := Scalar.remsi v1158 c32_i32_1005
  let c1_i32_1009 : BitVec 32 := 1#32
  let v1160 : BitVec 32 := Scalar.muli v1159 c1_i32_1009
  let v1161 : BitVec 32 := Scalar.addi c0_i32_1010 v1160
  v1161.toNat
def k0_dev69 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1013 : BitVec 32 := 7#32
  let v1168 : BitVec 32 := Scalar.addi v2 c7_i32_1013
  let c32_i32_1014 : BitVec 32 := 32#32
  let v1169 : BitVec 32 := Scalar.remsi v1168 c32_i32_1014
  let c1_i32_1018 : BitVec 32 := 1#32
  let v1170 : BitVec 32 := Scalar.muli v1169 c1_i32_1018
  let v1171 : BitVec 32 := Scalar.addi c0_i32_1019 v1170
  v1171.toNat
def k0_dev70 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1022 : BitVec 32 := 8#32
  let v1178 : BitVec 32 := Scalar.addi v2 c8_i32_1022
  let c32_i32_1023 : BitVec 32 := 32#32
  let v1179 : BitVec 32 := Scalar.remsi v1178 c32_i32_1023
  let c1_i32_1027 : BitVec 32 := 1#32
  let v1180 : BitVec 32 := Scalar.muli v1179 c1_i32_1027
  let v1181 : BitVec 32 := Scalar.addi c0_i32_1028 v1180
  v1181.toNat
def k0_dev71 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1031 : BitVec 32 := 9#32
  let v1188 : BitVec 32 := Scalar.addi v2 c9_i32_1031
  let c32_i32_1032 : BitVec 32 := 32#32
  let v1189 : BitVec 32 := Scalar.remsi v1188 c32_i32_1032
  let c1_i32_1036 : BitVec 32 := 1#32
  let v1190 : BitVec 32 := Scalar.muli v1189 c1_i32_1036
  let v1191 : BitVec 32 := Scalar.addi c0_i32_1037 v1190
  v1191.toNat
def k0_dev72 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1040 : BitVec 32 := 10#32
  let v1198 : BitVec 32 := Scalar.addi v2 c10_i32_1040
  let c32_i32_1041 : BitVec 32 := 32#32
  let v1199 : BitVec 32 := Scalar.remsi v1198 c32_i32_1041
  let c1_i32_1045 : BitVec 32 := 1#32
  let v1200 : BitVec 32 := Scalar.muli v1199 c1_i32_1045
  let v1201 : BitVec 32 := Scalar.addi c0_i32_1046 v1200
  v1201.toNat
def k0_dev73 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1049 : BitVec 32 := 11#32
  let v1208 : BitVec 32 := Scalar.addi v2 c11_i32_1049
  let c32_i32_1050 : BitVec 32 := 32#32
  let v1209 : BitVec 32 := Scalar.remsi v1208 c32_i32_1050
  let c1_i32_1054 : BitVec 32 := 1#32
  let v1210 : BitVec 32 := Scalar.muli v1209 c1_i32_1054
  let v1211 : BitVec 32 := Scalar.addi c0_i32_1055 v1210
  v1211.toNat
def k0_dev74 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1058 : BitVec 32 := 12#32
  let v1218 : BitVec 32 := Scalar.addi v2 c12_i32_1058
  let c32_i32_1059 : BitVec 32 := 32#32
  let v1219 : BitVec 32 := Scalar.remsi v1218 c32_i32_1059
  let c1_i32_1063 : BitVec 32 := 1#32
  let v1220 : BitVec 32 := Scalar.muli v1219 c1_i32_1063
  let v1221 : BitVec 32 := Scalar.addi c0_i32_1064 v1220
  v1221.toNat
def k0_dev75 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1067 : BitVec 32 := 13#32
  let v1228 : BitVec 32 := Scalar.addi v2 c13_i32_1067
  let c32_i32_1068 : BitVec 32 := 32#32
  let v1229 : BitVec 32 := Scalar.remsi v1228 c32_i32_1068
  let c1_i32_1072 : BitVec 32 := 1#32
  let v1230 : BitVec 32 := Scalar.muli v1229 c1_i32_1072
  let v1231 : BitVec 32 := Scalar.addi c0_i32_1073 v1230
  v1231.toNat
def k0_dev76 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1076 : BitVec 32 := 14#32
  let v1238 : BitVec 32 := Scalar.addi v2 c14_i32_1076
  let c32_i32_1077 : BitVec 32 := 32#32
  let v1239 : BitVec 32 := Scalar.remsi v1238 c32_i32_1077
  let c1_i32_1081 : BitVec 32 := 1#32
  let v1240 : BitVec 32 := Scalar.muli v1239 c1_i32_1081
  let v1241 : BitVec 32 := Scalar.addi c0_i32_1082 v1240
  v1241.toNat
def k0_dev77 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1085 : BitVec 32 := 15#32
  let v1248 : BitVec 32 := Scalar.addi v2 c15_i32_1085
  let c32_i32_1086 : BitVec 32 := 32#32
  let v1249 : BitVec 32 := Scalar.remsi v1248 c32_i32_1086
  let c1_i32_1090 : BitVec 32 := 1#32
  let v1250 : BitVec 32 := Scalar.muli v1249 c1_i32_1090
  let v1251 : BitVec 32 := Scalar.addi c0_i32_1091 v1250
  v1251.toNat
def k0_dev78 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1094 : BitVec 32 := 16#32
  let v1258 : BitVec 32 := Scalar.addi v2 c16_i32_1094
  let c32_i32_1095 : BitVec 32 := 32#32
  let v1259 : BitVec 32 := Scalar.remsi v1258 c32_i32_1095
  let c1_i32_1099 : BitVec 32 := 1#32
  let v1260 : BitVec 32 := Scalar.muli v1259 c1_i32_1099
  let v1261 : BitVec 32 := Scalar.addi c0_i32_1100 v1260
  v1261.toNat
def k0_dev79 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1103 : BitVec 32 := 17#32
  let v1268 : BitVec 32 := Scalar.addi v2 c17_i32_1103
  let c32_i32_1104 : BitVec 32 := 32#32
  let v1269 : BitVec 32 := Scalar.remsi v1268 c32_i32_1104
  let c1_i32_1108 : BitVec 32 := 1#32
  let v1270 : BitVec 32 := Scalar.muli v1269 c1_i32_1108
  let v1271 : BitVec 32 := Scalar.addi c0_i32_1109 v1270
  v1271.toNat
def k0_dev80 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1112 : BitVec 32 := 18#32
  let v1278 : BitVec 32 := Scalar.addi v2 c18_i32_1112
  let c32_i32_1113 : BitVec 32 := 32#32
  let v1279 : BitVec 32 := Scalar.remsi v1278 c32_i32_1113
  let c1_i32_1117 : BitVec 32 := 1#32
  let v1280 : BitVec 32 := Scalar.muli v1279 c1_i32_1117
  let v1281 : BitVec 32 := Scalar.addi c0_i32_1118 v1280
  v1281.toNat
def k0_dev81 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1121 : BitVec 32 := 19#32
  let v1288 : BitVec 32 := Scalar.addi v2 c19_i32_1121
  let c32_i32_1122 : BitVec 32 := 32#32
  let v1289 : BitVec 32 := Scalar.remsi v1288 c32_i32_1122
  let c1_i32_1126 : BitVec 32 := 1#32
  let v1290 : BitVec 32 := Scalar.muli v1289 c1_i32_1126
  let v1291 : BitVec 32 := Scalar.addi c0_i32_1127 v1290
  v1291.toNat
def k0_dev82 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1130 : BitVec 32 := 20#32
  let v1298 : BitVec 32 := Scalar.addi v2 c20_i32_1130
  let c32_i32_1131 : BitVec 32 := 32#32
  let v1299 : BitVec 32 := Scalar.remsi v1298 c32_i32_1131
  let c1_i32_1135 : BitVec 32 := 1#32
  let v1300 : BitVec 32 := Scalar.muli v1299 c1_i32_1135
  let v1301 : BitVec 32 := Scalar.addi c0_i32_1136 v1300
  v1301.toNat
def k0_dev83 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1139 : BitVec 32 := 21#32
  let v1308 : BitVec 32 := Scalar.addi v2 c21_i32_1139
  let c32_i32_1140 : BitVec 32 := 32#32
  let v1309 : BitVec 32 := Scalar.remsi v1308 c32_i32_1140
  let c1_i32_1144 : BitVec 32 := 1#32
  let v1310 : BitVec 32 := Scalar.muli v1309 c1_i32_1144
  let v1311 : BitVec 32 := Scalar.addi c0_i32_1145 v1310
  v1311.toNat
def k0_dev84 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1148 : BitVec 32 := 22#32
  let v1318 : BitVec 32 := Scalar.addi v2 c22_i32_1148
  let c32_i32_1149 : BitVec 32 := 32#32
  let v1319 : BitVec 32 := Scalar.remsi v1318 c32_i32_1149
  let c1_i32_1153 : BitVec 32 := 1#32
  let v1320 : BitVec 32 := Scalar.muli v1319 c1_i32_1153
  let v1321 : BitVec 32 := Scalar.addi c0_i32_1154 v1320
  v1321.toNat
def k0_dev85 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1157 : BitVec 32 := 23#32
  let v1328 : BitVec 32 := Scalar.addi v2 c23_i32_1157
  let c32_i32_1158 : BitVec 32 := 32#32
  let v1329 : BitVec 32 := Scalar.remsi v1328 c32_i32_1158
  let c1_i32_1162 : BitVec 32 := 1#32
  let v1330 : BitVec 32 := Scalar.muli v1329 c1_i32_1162
  let v1331 : BitVec 32 := Scalar.addi c0_i32_1163 v1330
  v1331.toNat
def k0_dev86 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1166 : BitVec 32 := 24#32
  let v1338 : BitVec 32 := Scalar.addi v2 c24_i32_1166
  let c32_i32_1167 : BitVec 32 := 32#32
  let v1339 : BitVec 32 := Scalar.remsi v1338 c32_i32_1167
  let c1_i32_1171 : BitVec 32 := 1#32
  let v1340 : BitVec 32 := Scalar.muli v1339 c1_i32_1171
  let v1341 : BitVec 32 := Scalar.addi c0_i32_1172 v1340
  v1341.toNat
def k0_dev87 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1175 : BitVec 32 := 25#32
  let v1348 : BitVec 32 := Scalar.addi v2 c25_i32_1175
  let c32_i32_1176 : BitVec 32 := 32#32
  let v1349 : BitVec 32 := Scalar.remsi v1348 c32_i32_1176
  let c1_i32_1180 : BitVec 32 := 1#32
  let v1350 : BitVec 32 := Scalar.muli v1349 c1_i32_1180
  let v1351 : BitVec 32 := Scalar.addi c0_i32_1181 v1350
  v1351.toNat
def k0_dev88 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1184 : BitVec 32 := 26#32
  let v1358 : BitVec 32 := Scalar.addi v2 c26_i32_1184
  let c32_i32_1185 : BitVec 32 := 32#32
  let v1359 : BitVec 32 := Scalar.remsi v1358 c32_i32_1185
  let c1_i32_1189 : BitVec 32 := 1#32
  let v1360 : BitVec 32 := Scalar.muli v1359 c1_i32_1189
  let v1361 : BitVec 32 := Scalar.addi c0_i32_1190 v1360
  v1361.toNat
def k0_dev89 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1193 : BitVec 32 := 27#32
  let v1368 : BitVec 32 := Scalar.addi v2 c27_i32_1193
  let c32_i32_1194 : BitVec 32 := 32#32
  let v1369 : BitVec 32 := Scalar.remsi v1368 c32_i32_1194
  let c1_i32_1198 : BitVec 32 := 1#32
  let v1370 : BitVec 32 := Scalar.muli v1369 c1_i32_1198
  let v1371 : BitVec 32 := Scalar.addi c0_i32_1199 v1370
  v1371.toNat
def k0_dev90 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1202 : BitVec 32 := 28#32
  let v1378 : BitVec 32 := Scalar.addi v2 c28_i32_1202
  let c32_i32_1203 : BitVec 32 := 32#32
  let v1379 : BitVec 32 := Scalar.remsi v1378 c32_i32_1203
  let c1_i32_1207 : BitVec 32 := 1#32
  let v1380 : BitVec 32 := Scalar.muli v1379 c1_i32_1207
  let v1381 : BitVec 32 := Scalar.addi c0_i32_1208 v1380
  v1381.toNat
def k0_dev91 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1211 : BitVec 32 := 29#32
  let v1388 : BitVec 32 := Scalar.addi v2 c29_i32_1211
  let c32_i32_1212 : BitVec 32 := 32#32
  let v1389 : BitVec 32 := Scalar.remsi v1388 c32_i32_1212
  let c1_i32_1216 : BitVec 32 := 1#32
  let v1390 : BitVec 32 := Scalar.muli v1389 c1_i32_1216
  let v1391 : BitVec 32 := Scalar.addi c0_i32_1217 v1390
  v1391.toNat
def k0_dev92 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1220 : BitVec 32 := 30#32
  let v1398 : BitVec 32 := Scalar.addi v2 c30_i32_1220
  let c32_i32_1221 : BitVec 32 := 32#32
  let v1399 : BitVec 32 := Scalar.remsi v1398 c32_i32_1221
  let c1_i32_1225 : BitVec 32 := 1#32
  let v1400 : BitVec 32 := Scalar.muli v1399 c1_i32_1225
  let v1401 : BitVec 32 := Scalar.addi c0_i32_1226 v1400
  v1401.toNat
def k0_dev93 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1229 : BitVec 32 := 31#32
  let v1408 : BitVec 32 := Scalar.addi v2 c31_i32_1229
  let c32_i32_1230 : BitVec 32 := 32#32
  let v1409 : BitVec 32 := Scalar.remsi v1408 c32_i32_1230
  let c1_i32_1234 : BitVec 32 := 1#32
  let v1410 : BitVec 32 := Scalar.muli v1409 c1_i32_1234
  let v1411 : BitVec 32 := Scalar.addi c0_i32_1235 v1410
  v1411.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1242 : BitVec 32 := 0#32
  let c0_i32_1243 : BitVec 32 := 0#32
  ![v2.toNat, 0, 0]
def k0_off4 (d0 : Dev nD) (c0_i32_1495 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1614 : BitVec 32 := Scalar.addi v2 c0_i32_1495
  let c1_i32_1496 : BitVec 32 := 1#32
  let v1615 : BitVec 32 := Scalar.addi v1614 c1_i32_1496
  let c32_i32_1497 : BitVec 32 := 32#32
  let v1616 : BitVec 32 := Scalar.remsi v1615 c32_i32_1497
  let v1620 : Index := Scalar.indexCast v1616
  let c0_1501 : Index := 0#32
  let c0_1502 : Index := 0#32
  ![v1620.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1x1024x32768 : Shape := ⟨3, ![1, 1024, 32768]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x256x1024x1024 : Shape := ⟨4, ![1, 256, 1024, 1024]⟩
abbrev S1x1x1024x1024 : Shape := ⟨4, ![1, 1, 1024, 1024]⟩
abbrev S1x256x1024 : Shape := ⟨3, ![1, 256, 1024]⟩
abbrev S1x256x1024x1 : Shape := ⟨4, ![1, 256, 1024, 1]⟩
abbrev S1x1x1024x1 : Shape := ⟨4, ![1, 1, 1024, 1]⟩
abbrev S1x256x128x1024 : Shape := ⟨4, ![1, 256, 128, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x32768, .bf16⟩
  | .hbm, ⟨2, _⟩ => ⟨S1x1024x256x128, .bf16⟩
  | .hbm, ⟨3, _⟩ => ⟨S1x1024x256x128, .bf16⟩
  | .hbm, ⟨4, _⟩ => ⟨S32768x1024, .bf16⟩
  | .hbm, ⟨5, _⟩ => ⟨S1x1024x32768, .f32⟩
  | .hbm, ⟨6, _⟩ => ⟨S1x1024x32768, .bf16⟩
  | .hbm, ⟨7, _⟩ => ⟨S1x1024x256x128, .bf16⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S1x256x1024x1024, .f32⟩
  | .hbm, ⟨20, _⟩ => ⟨S1x256x1024x1024, .bf16⟩
  | .hbm, ⟨21, _⟩ => ⟨S1x256x1024x1024, .f32⟩
  | .hbm, ⟨22, _⟩ => ⟨S_, .f32⟩
  | .hbm, ⟨23, _⟩ => ⟨S1x256x1024x1024, .f32⟩
  | .hbm, ⟨24, _⟩ => ⟨S1x256x1024x1024, .f32⟩
  | .hbm, ⟨25, _⟩ => ⟨S1x1x1024x1024, .i1⟩
  | .hbm, ⟨26, _⟩ => ⟨S_, .f32⟩
  | .hbm, ⟨27, _⟩ => ⟨S_, .f32⟩
  | .hbm, ⟨28, _⟩ => ⟨S1x256x1024x1024, .i1⟩
  | .hbm, ⟨29, _⟩ => ⟨S1x256x1024x1024, .f32⟩
  | .hbm, ⟨30, _⟩ => ⟨S1x256x1024x1024, .f32⟩
  | .hbm, ⟨31, _⟩ => ⟨S_, .f32⟩
  | .hbm, ⟨32, _⟩ => ⟨S1x256x1024, .f32⟩
  | .hbm, ⟨33, _⟩ => ⟨S1x256x1024x1, .f32⟩
  | .hbm, ⟨34, _⟩ => ⟨S1x256x1024x1024, .f32⟩
  | .hbm, ⟨35, _⟩ => ⟨S1x256x1024x1024, .f32⟩
  | .hbm, ⟨36, _⟩ => ⟨S1x256x1024x1024, .f32⟩
  | .hbm, ⟨37, _⟩ => ⟨S_, .i1⟩
  | .hbm, ⟨38, _⟩ => ⟨S1024, .i1⟩
  | .hbm, ⟨39, _⟩ => ⟨S1x1x1024x1, .i1⟩
  | .hbm, ⟨40, _⟩ => ⟨S_, .f32⟩
  | .hbm, ⟨41, _⟩ => ⟨S1x256x1024, .f32⟩
  | .hbm, ⟨42, _⟩ => ⟨S1x256x1024x1, .f32⟩
  | .hbm, ⟨43, _⟩ => ⟨S_, .f32⟩
  | .hbm, ⟨44, _⟩ => ⟨S_, .f32⟩
  | .hbm, ⟨45, _⟩ => ⟨S1x256x1024x1, .i1⟩
  | .hbm, ⟨46, _⟩ => ⟨S1x256x1024x1, .f32⟩
  | .hbm, ⟨47, _⟩ => ⟨S1x256x1024x1, .f32⟩
  | .hbm, ⟨48, _⟩ => ⟨S1x256x1024x1024, .f32⟩
  | .hbm, ⟨49, _⟩ => ⟨S1x256x1024x1024, .f32⟩
  | .hbm, ⟨50, _⟩ => ⟨S1x1x1024x1, .i1⟩
  | .hbm, ⟨51, _⟩ => ⟨S_, .f32⟩
  | .hbm, ⟨52, _⟩ => ⟨S_, .f32⟩
  | .hbm, ⟨53, _⟩ => ⟨S1x256x1024x1024, .i1⟩
  | .hbm, ⟨54, _⟩ => ⟨S1x256x1024x1024, .f32⟩
  | .hbm, ⟨55, _⟩ => ⟨S1x256x1024x1024, .f32⟩
  | .hbm, ⟨56, _⟩ => ⟨S1x256x128x1024, .f32⟩
  | .hbm, ⟨57, _⟩ => ⟨S1x1024x256x128, .f32⟩
  | .hbm, ⟨58, _⟩ => ⟨S1x1024x32768, .f32⟩
  | .hbm, ⟨59, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Ideal.Geom.lean ====
/-
  The scratch buffers of the kernel cut into blocks of 32 x 1024 elements, the
  neighbour a device talks to in round i, and the semaphores by family and round.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionTalk
public import Idealize.ShloMosaic.Lib.Rounds
public import Idealize.ShloMosaic.Lib.Tactic
public import Idealize.ShloMosaic.Lib.ValueLayout
public import Idealize.ShloMosaic.Lib.ViewIndex
public import Idealize.ShloMosaic.Lib.Transfers
public import Idealize.ShloMosaic.Lib.Ring

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

/-- The device `i + 1` places after `c` around the 32 devices. -/
def nxt (c : Dev nD) (i : Fin 31) : Dev nD := ⟨(c.val + i.val + 1) % 32, Nat.mod_lt _ (by decide)⟩

/-- The slot on the receiving device: seen from there, the sender is `rev i + 1` places ahead. -/
def rev (i : Fin 31) : Fin 31 := ⟨30 - i.val, by omega⟩

theorem rev_rev (i : Fin 31) : rev (rev i) = i := by revert i; decide
theorem nxt_rev (c : Dev nD) (i : Fin 31) : nxt (nxt c i) (rev i) = c := by
  have hc : c.val < 32 := c.isLt
  have hi := i.isLt
  apply Fin.ext
  show ((c.val + i.val + 1) % 32 + (30 - i.val) + 1) % 32 = c.val
  omega
theorem nxt_rev' (c : Dev nD) (i : Fin 31) : nxt (nxt c (rev i)) i = c := by
  have := nxt_rev c (rev i); rwa [rev_rev] at this
theorem nxt_ne (c : Dev nD) (i : Fin 31) : nxt c i ≠ c := by
  have hc : c.val < 32 := c.isLt
  have hi := i.isLt
  intro h
  have h' : (c.val + i.val + 1) % 32 = c.val := congrArg Fin.val h
  omega
theorem nxt_inj (c : Dev nD) {i j : Fin 31} (h : nxt c i = nxt c j) : i = j := by
  have hc : c.val < 32 := c.isLt
  have hi := i.isLt
  have hj := j.isLt
  have h' : (c.val + i.val + 1) % 32 = (c.val + j.val + 1) % 32 := congrArg Fin.val h
  apply Fin.ext; omega
/-- Every device but `c` is a neighbour of `c`. -/
theorem exists_nxt (c d : Dev nD) (h : d ≠ c) : ∃ i, nxt c i = d := by
  have hc : c.val < 32 := c.isLt
  have hd : d.val < 32 := d.isLt
  have hn : d.val ≠ c.val := fun e => h (Fin.ext e)
  refine ⟨⟨(d.val + 31 - c.val) % 32, by omega⟩, Fin.ext ?_⟩
  show (c.val + (d.val + 31 - c.val) % 32 + 1) % 32 = d.val
  omega

/-! ## Blocks of the three-axis scratch buffers -/

abbrev partM : Memref sig .tc .vmem S32x32x1024 .bf16 := Memref.whole cc0_scratch0
abbrev ctxM : Memref sig .tc .vmem S1024x1024 .bf16 := Memref.whole cc0_scratch1
abbrev redM : Memref sig .tc .vmem S32x1024 .bf16 := Memref.whole cc0_scratch2
abbrev rsM : Memref sig .tc .vmem S31x32x1024 .bf16 := Memref.whole cc0_scratch3
abbrev agM : Memref sig .tc .vmem S31x32x1024 .bf16 := Memref.whole cc0_scratch4
abbrev outM : Memref sig .tc .vmem S32x32x1024 .f32 := Memref.whole cc0_stg5_0

/-- The block of 32 x 1024 elements of the partial products that starts at `o`. -/
abbrev partB (o : Fin 3 → ℕ) (h : ∀ a, o a + S1x32x1024.size a ≤ S32x32x1024.size a) : Memref sig .tc .vmem S32x1024 .bf16 :=
  (partM.slice (Rect.unit (s := S32x32x1024) o S1x32x1024.size h) (fun _ => rfl)).squeeze S32x1024 squeezes_S1x32x1024_S32x1024
/-- The slot of the reduce-scatter buffer that starts at `o`. -/
abbrev rsB (o : Fin 3 → ℕ) (h : ∀ a, o a + S1x32x1024.size a ≤ S31x32x1024.size a) : Memref sig .tc .vmem S32x1024 .bf16 :=
  (rsM.slice (Rect.unit (s := S31x32x1024) o S1x32x1024.size h) (fun _ => rfl)).squeeze S32x1024 squeezes_S1x32x1024_S32x1024
/-- The slot of the all-gather buffer that starts at `o`. -/
abbrev agB (o : Fin 3 → ℕ) (h : ∀ a, o a + S1x32x1024.size a ≤ S31x32x1024.size a) : Memref sig .tc .vmem S32x1024 .bf16 :=
  (agM.slice (Rect.unit (s := S31x32x1024) o S1x32x1024.size h) (fun _ => rfl)).squeeze S32x1024 squeezes_S1x32x1024_S32x1024

theorem inbP (d : Dev nD) : ∀ a, (![d.val, 0, 0] : Fin 3 → ℕ) a + S1x32x1024.size a ≤ S32x32x1024.size a := by
  have hd : d.val < 32 := d.isLt
  intro a
  match a with
  | ⟨0, _⟩ => show d.val + 1 ≤ 32; omega
  | ⟨1, _⟩ => show 0 + 32 ≤ 32; omega
  | ⟨2, _⟩ => show 0 + 1024 ≤ 1024; omega
theorem inbS (i : Fin 31) : ∀ a, (![i.val, 0, 0] : Fin 3 → ℕ) a + S1x32x1024.size a ≤ S31x32x1024.size a := by
  have hd := i.isLt
  intro a
  match a with
  | ⟨0, _⟩ => show i.val + 1 ≤ 31; omega
  | ⟨1, _⟩ => show 0 + 32 ≤ 32; omega
  | ⟨2, _⟩ => show 0 + 1024 ≤ 1024; omega

abbrev partD (d : Dev nD) := partB ![d.val, 0, 0] (inbP d)
abbrev rsD (i : Fin 31) := rsB ![i.val, 0, 0] (inbS i)
abbrev agD (i : Fin 31) := agB ![i.val, 0, 0] (inbS i)

/-- Where a block of one leading row sits in a buffer of three axes. -/
theorem blk_emb {n : ℕ} (b : Fin n) (h : ∀ a, (![b.val, 0, 0] : Fin 3 → ℕ) a + S1x32x1024.size a ≤ (⟨3, ![n, 32, 1024]⟩ : Shape).size a)
    (x : S32x1024.Idx) :
    (Rect.unit (s := ⟨3, ![n, 32, 1024]⟩) ![b.val, 0, 0] S1x32x1024.size h).emb
      (Shape.reshapeEquiv (squeezes_S1x32x1024_S32x1024 : S1x32x1024.Squeezes S32x1024).numel_eq x) = ix3 b (x 0) (x 1) := by
  have hx : x = ix2 (x 0) (x 1) := by funext a; match a with | ⟨0, _⟩ => rfl | ⟨1, _⟩ => rfl
  rw [hx]
  have := reshapeEquiv_ix2_1ab (a := 32) (b := 1024) (squeezes_S1x32x1024_S32x1024 : S1x32x1024.Squeezes S32x1024).numel_eq (x 0) (x 1)
  erw [this]
  funext a
  apply Fin.ext
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega

theorem partD_emb (d : Dev nD) (x : S32x1024.Idx) : (partD d).view.emb x = ix3 d (x 0) (x 1) := blk_emb (n := 32) d (inbP d) x
theorem rsD_emb (i : Fin 31) (x : S32x1024.Idx) : (rsD i).view.emb x = ix3 i (x 0) (x 1) := blk_emb (n := 31) i (inbS i) x
theorem agD_emb (i : Fin 31) (x : S32x1024.Idx) : (agD i).view.emb x = ix3 i (x 0) (x 1) := blk_emb (n := 31) i (inbS i) x

theorem partD_mem (d : Dev nD) (x : S32x32x1024.Idx) : x ∈ (partD d).view.set ↔ x 0 = d := by
  unfold View.set; rw [Finset.mem_map]
  constructor
  · rintro ⟨j, -, rfl⟩; rw [partD_emb]
  · intro hx
    refine ⟨ix2 (x 1) (x 2), Finset.mem_univ _, (partD_emb d _).trans ?_⟩
    funext a; match a with | ⟨0, _⟩ => exact hx.symm | ⟨1, _⟩ => rfl | ⟨2, _⟩ => rfl
theorem rsD_mem (i : Fin 31) (x : S31x32x1024.Idx) : x ∈ (rsD i).view.set ↔ x 0 = i := by
  unfold View.set; rw [Finset.mem_map]
  constructor
  · rintro ⟨j, -, rfl⟩; rw [rsD_emb]
  · intro hx
    refine ⟨ix2 (x 1) (x 2), Finset.mem_univ _, (rsD_emb i _).trans ?_⟩
    funext a; match a with | ⟨0, _⟩ => exact hx.symm | ⟨1, _⟩ => rfl | ⟨2, _⟩ => rfl
theorem agD_mem (i : Fin 31) (x : S31x32x1024.Idx) : x ∈ (agD i).view.set ↔ x 0 = i := by
  unfold View.set; rw [Finset.mem_map]
  constructor
  · rintro ⟨j, -, rfl⟩; rw [agD_emb]
  · intro hx
    refine ⟨ix2 (x 1) (x 2), Finset.mem_univ _, (agD_emb i _).trans ?_⟩
    funext a; match a with | ⟨0, _⟩ => exact hx.symm | ⟨1, _⟩ => rfl | ⟨2, _⟩ => rfl

/-! ## Semaphores -/

theorem dsem_lt (f : Fin 4) (i : Fin 31) : 6 + 31 * f.val + i.val < 130 := by omega
/-- The DMA semaphore of family `f` (0 and 1 the reduce-scatter's sends and arrivals, 2 and 3 the all-gather's) and round `i`. -/
def dsem (f : Fin 4) (i : Fin 31) : DmaSem sig := ⟨6 + 31 * f.val + i.val, dsem_lt f i⟩

abbrev barS : Sem sig := sig.barrier 0 rfl

theorem dsem_inj {f f' : Fin 4} {i i' : Fin 31} (h : dsem f i = dsem f' i') : f = f' ∧ i = i' := by
  have h' : 6 + 31 * f.val + i.val = 6 + 31 * f'.val + i'.val := congrArg Fin.val h
  constructor <;> apply Fin.ext <;> omega

/-- One semaphore taken out of a family of 31. -/
theorem sem_at (base : ℕ) (hb : base + S31.numel ≤ 130) (k : ℕ) (h : ∀ a, (![k] : Fin 1 → Nat) a + S1.size a ≤ S31.size a) :
    (((SemArray.consecutive base S31 hb : DmaSems sig S31).slice (Rect.unit (s := S31) ![k] S1.size h)).squeeze S_ squeezes_S1_S_).sem.val = base + k := by
  show base + (S31.rowMajor _).val = base + k
  congr 1
  rw [Shape.rowMajor_val_one]
  have this : ∀ (y : Fin 1), k + 1 * y.val = k := fun y => by omega
  exact this _

theorem rsS_sem {k : ℕ} (hk : k < 31) (h : ∀ a, (![k] : Fin 1 → Nat) a + S1.size a ≤ S31.size a) :
    ((cc0_scratch5.slice (Rect.unit (s := S31) ![k] S1.size h)).squeeze S_ squeezes_S1_S_).sem = dsem 0 ⟨k, hk⟩ := Fin.ext (sem_at _ _ _ _)
theorem rsR_sem {k : ℕ} (hk : k < 31) (h : ∀ a, (![k] : Fin 1 → Nat) a + S1.size a ≤ S31.size a) :
    ((cc0_scratch6.slice (Rect.unit (s := S31) ![k] S1.size h)).squeeze S_ squeezes_S1_S_).sem = dsem 1 ⟨k, hk⟩ := Fin.ext (sem_at _ _ _ _)
theorem agS_sem {k : ℕ} (hk : k < 31) (h : ∀ a, (![k] : Fin 1 → Nat) a + S1.size a ≤ S31.size a) :
    ((cc0_scratch7.slice (Rect.unit (s := S31) ![k] S1.size h)).squeeze S_ squeezes_S1_S_).sem = dsem 2 ⟨k, hk⟩ := Fin.ext (sem_at _ _ _ _)
theorem agR_sem {k : ℕ} (hk : k < 31) (h : ∀ a, (![k] : Fin 1 → Nat) a + S1.size a ≤ S31.size a) :
    ((cc0_scratch8.slice (Rect.unit (s := S31) ![k] S1.size h)).squeeze S_ squeezes_S1_S_).sem = dsem 3 ⟨k, hk⟩ := Fin.ext (sem_at _ _ _ _)

/-! ## Indices from `k` up, and below `k` -/

/-- The rounds still to come after `k` of them. -/
def up (k : ℕ) : Finset (Fin 31) := Finset.univ.filter (k ≤ ·.val)
/-- The first `k` rounds. -/
def dn (k : ℕ) : Finset (Fin 31) := Finset.univ.filter (·.val < k)

theorem up_zero : up 0 = Finset.univ := Finset.filter_true_of_mem fun _ _ => Nat.zero_le _
theorem dn_zero : dn 0 = ∅ := Finset.filter_false_of_mem fun _ _ => Nat.not_lt_zero _
theorem up_last : up 31 = ∅ := Finset.filter_false_of_mem fun i _ => Nat.not_le.2 i.isLt
theorem dn_last : dn 31 = Finset.univ := Finset.filter_true_of_mem fun i _ => i.isLt
theorem up_step {k : ℕ} (hk : k < 31) : up k = insert ⟨k, hk⟩ (up (k + 1)) := by
  ext i; simp only [up, Finset.mem_filter, Finset.mem_univ, true_and, Finset.mem_insert, Fin.ext_iff]; omega
theorem dn_step {k : ℕ} (hk : k < 31) : dn (k + 1) = insert ⟨k, hk⟩ (dn k) := by
  ext i; simp only [dn, Finset.mem_filter, Finset.mem_univ, true_and, Finset.mem_insert, Fin.ext_iff]; omega
theorem not_mem_up {k : ℕ} (hk : k < 31) : (⟨k, hk⟩ : Fin 31) ∉ up (k + 1) := by
  simp only [up, Finset.mem_filter, Finset.mem_univ, true_and]; omega
theorem not_mem_dn {k : ℕ} (hk : k < 31) : (⟨k, hk⟩ : Fin 31) ∉ dn k := by
  simp only [dn, Finset.mem_filter, Finset.mem_univ, true_and]; omega
theorem mem_dn {k : ℕ} (i : Fin 31) : i ∈ dn k ↔ i.val < k := by
  simp only [dn, Finset.mem_filter, Finset.mem_univ, true_and]

end Cert.KernelIdeal.Talk
-- ==== Proof.Ideal.Proto.lean ====
/-
  The protocol of the kernel: what is paid to each semaphore, what each device
  owes, and one rule per kind of step (a signal, the barrier, a remote copy, a wait).
-/
module

public import proofs.«01_k».proof.Proof.Ideal.Geom

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-! ## Cells and contents -/

abbrev barCell (c : Dev nD) : GSem nD τ sig := ((c : Thread nD τ), .reg barS)
abbrev cell (c : Dev nD) (f : Fin 4) (i : Fin 31) : GSem nD τ sig := ((c : Thread nD τ), .dma (dsem f i))

/-- The credit of one block of 32 x 1024 elements. -/
abbrev N : ℕ := (rsD 0).view.dmaCredit
theorem N_pos : 0 < N := View.dmaCredit_pos _ (by decide)

abbrev partPts (c d : Dev nD) (f : Vec F S32x32x1024 .bf16) : sProp 𝕄 := (partD d).view.loc (c : Thread nD τ) ↦[(partD d).view.set]{fullShare} f
abbrev rsPts (c : Dev nD) (i : Fin 31) (f : Vec F S31x32x1024 .bf16) : sProp 𝕄 := (rsD i).view.loc (c : Thread nD τ) ↦[(rsD i).view.set]{fullShare} f
abbrev agPts (c : Dev nD) (i : Fin 31) (f : Vec F S31x32x1024 .bf16) : sProp 𝕄 := (agD i).view.loc (c : Thread nD τ) ↦[(agD i).view.set]{fullShare} f
abbrev redPts (c : Dev nD) (q : PosShare TreeShare) (f : Vec F S32x1024 .bf16) : sProp 𝕄 := redM.view.loc (c : Thread nD τ) ↦[redM.view.set]{q} f
/-- The share of the reduced rows lent to the copy of round `i`. -/
abbrev shr (i : Fin 31) : PosShare TreeShare := Transfers.dealOf fullShare (Finset.univ : Finset (Fin 31)) i

-- What each device's partial products are, and its reduced rows.
variable (P : Dev nD → Vec F S32x32x1024 .bf16) (M : Dev nD → Vec F S32x1024 .bf16)

/-- What the reduce-scatter leaves in device `c`'s slots: slot `s` holds the rows `c` of its neighbour's partial products. -/
def RS (c : Dev nD) : Vec F S31x32x1024 .bf16 := fun x => P (nxt c (x 0)) (ix3 c (x 1) (x 2))
/-- What the all-gather leaves in device `c`'s slots: slot `s` holds its neighbour's reduced rows. -/
def AG (c : Dev nD) : Vec F S31x32x1024 .bf16 := fun x => M (nxt c (x 0)) (ix2 (x 1) (x 2))

/-- A slot rewritten by what is read from the sender's block holds what `RS` says. -/
theorem landed_rs (c : Dev nD) (i : Fin 31) (fd : Vec F S31x32x1024 .bf16) :
    ∀ x ∈ (rsD (rev i)).view.set, (rsD (rev i)).view.write (Elt F) fd ((partD (nxt c i)).view.read (Elt F) (P c)) Finset.univ x = RS P (nxt c i) x := by
  intro x hx
  unfold View.set at hx; rw [Finset.mem_map] at hx
  obtain ⟨j, -, rfl⟩ := hx
  rw [View.write_emb_of_mem _ _ (Finset.mem_univ j), View.read_apply]
  erw [partD_emb, rsD_emb]
  show P c _ = P (nxt (nxt c i) (rev i)) (ix3 (nxt c i) (j 0) (j 1))
  rw [nxt_rev]; rfl

/-- A slot rewritten by the sender's reduced rows holds what `AG` says. -/
theorem landed_ag (c : Dev nD) (i : Fin 31) (fd : Vec F S31x32x1024 .bf16) :
    ∀ x ∈ (agD (rev i)).view.set, (agD (rev i)).view.write (Elt F) fd (redM.view.read (Elt F) (M c)) Finset.univ x = AG M (nxt c i) x := by
  intro x hx
  unfold View.set at hx; rw [Finset.mem_map] at hx
  obtain ⟨j, -, rfl⟩ := hx
  rw [View.write_emb_of_mem _ _ (Finset.mem_univ j), View.read_apply]
  erw [agD_emb]
  show M c j = M (nxt (nxt c i) (rev i)) (ix2 (j 0) (j 1))
  rw [nxt_rev]
  congr 1; funext a; match a with | ⟨0, _⟩ => rfl | ⟨1, _⟩ => rfl

/-! ## The schedule -/

/-- Paid to `c`'s barrier by its neighbour of round `j`: the neighbour's two slots meant for `c`. -/
def barPay (c : Dev nD) (j : Fin 31) : sProp 𝕄 :=
  iprop((∃ f, rsPts (nxt c j) (rev j) f) ∗ (∃ f, agPts (nxt c j) (rev j) f)
    ∗ reached ER (cell (nxt c j) 1 (rev j)) 0 ∗ reached ER (cell (nxt c j) 3 (rev j)) 0)
/-- Paid to `c`'s DMA semaphore of family `f` and round `i`. -/
def pay (c : Dev nD) (f : Fin 4) (i : Fin 31) : sProp 𝕄 :=
  if f = 0 then partPts c (nxt c i) (P c) else if f = 1 then rsPts c i (RS P c)
  else if f = 2 then redPts c (shr i) (M c) else agPts c i (AG M c)

def famOf (s : DmaSem sig) : Fin 4 := ⟨(s.val - 6) / 31 % 4, Nat.mod_lt _ (by decide)⟩
def idxOf (s : DmaSem sig) : Fin 31 := ⟨(s.val - 6) % 31, Nat.mod_lt _ (by decide)⟩
theorem dsem_val (f : Fin 4) (i : Fin 31) : (dsem f i).val = 6 + 31 * f.val + i.val := rfl
theorem famOf_dsem (f : Fin 4) (i : Fin 31) : famOf (dsem f i) = f := by
  apply Fin.ext; show (6 + 31 * f.val + i.val - 6) / 31 % 4 = f.val; omega
theorem idxOf_dsem (f : Fin 4) (i : Fin 31) : idxOf (dsem f i) = i := by
  apply Fin.ext; show (6 + 31 * f.val + i.val - 6) % 31 = i.val; omega

/-- Which duties there are at a semaphore: every neighbour's at the barrier, one at each DMA semaphore of the four families. -/
def dutiesAt : SemLoc sig → Finset (Fin 31)
  | .reg _ => Finset.univ
  | .dma s => if 6 ≤ s.val then {0} else ∅
def amountAt : SemLoc sig → ℕ
  | .reg _ => 1
  | .dma _ => N
def payAt (c : Dev nD) (d : Fin 31) : SemLoc sig → sProp 𝕄
  | .reg _ => barPay c d
  | .dma s => pay P M c (famOf s) (idxOf s)

/-- One round at every semaphore. -/
def talkRd : Rounds.Schedule (GSem nD τ sig) (Fin 31) 𝕄 where
  duties g r := if r = 0 ∧ g.1.2 = .tc then dutiesAt g.2 else ∅
  unitless _ := False
  amount g _ _ := amountAt g.2
  payload g _ d := payAt P M g.1.1 d g.2
  amount_pos g _ _ _ := by
    rcases g with ⟨t, s | s⟩
    · exact Nat.one_pos
    · exact N_pos

instance talkRd_payload_storable (g : GSem nD τ sig) (r : ℕ) (d : Fin 31) :
    BI.Storable (upEmb : UEmb _ 𝕄) ((talkRd P M).payload g r d) := by
  show BI.Storable upEmb (payAt P M g.1.1 d g.2)
  rcases g with ⟨t, s | s⟩
  · show BI.Storable upEmb (barPay t.1 d)
    unfold barPay; infer_instance
  · show BI.Storable upEmb (pay P M t.1 (famOf s) (idxOf s))
    unfold pay; (repeat' split) <;> infer_instance

theorem duties_bar (c : Dev nD) : (talkRd P M).duties (barCell c) 0 = Finset.univ := by dsimp only [talkRd]; exact if_pos ⟨rfl, rfl⟩
theorem duties_cell (c : Dev nD) (f : Fin 4) (i : Fin 31) : (talkRd P M).duties (cell c f i) 0 = {0} := by
  dsimp only [talkRd]; rw [if_pos ⟨rfl, rfl⟩]; exact if_pos (by rw [dsem_val]; omega)
theorem duties_later (g : GSem nD τ sig) : ∀ r, 1 ≤ r → (talkRd P M).duties g r = ∅ :=
  fun r hr => by dsimp only [talkRd]; exact if_neg (fun h => by omega)
theorem amount_bar (c : Dev nD) (d : Fin 31) : (talkRd P M).amount (barCell c) 0 d = 1 := rfl
theorem amount_cell (c : Dev nD) (f : Fin 4) (i d : Fin 31) : (talkRd P M).amount (cell c f i) 0 d = N := rfl
theorem expect_bar (c : Dev nD) : (talkRd P M).expect (barCell c) 0 = 31 := by
  unfold Schedule.expect Schedule.amountOf; rw [duties_bar, Finset.sum_congr rfl fun d _ => amount_bar P M c d]; rfl
theorem expect_cell (c : Dev nD) (f : Fin 4) (i : Fin 31) : (talkRd P M).expect (cell c f i) 0 = N := by
  unfold Schedule.expect Schedule.amountOf; rw [duties_cell, Finset.sum_singleton, amount_cell]
theorem payload_bar (c : Dev nD) (d : Fin 31) : (talkRd P M).payload (barCell c) 0 d = barPay c d := rfl
theorem payload_cell (c : Dev nD) (f : Fin 4) (i d : Fin 31) : (talkRd P M).payload (cell c f i) 0 d = pay P M c f i := by
  show pay P M c (famOf (dsem f i)) (idxOf (dsem f i)) = _
  rw [famOf_dsem, idxOf_dsem]
theorem rest_bar (c : Dev nD) :
    bigSep ((talkRd P M).duties (barCell c) 0 \ ∅) (fun d => (talkRd P M).payload (barCell c) 0 d) = bigSep Finset.univ fun d => barPay c d := by
  rw [Finset.sdiff_empty, duties_bar]; rfl
theorem rest_cell (c : Dev nD) (f : Fin 4) (i : Fin 31) :
    bigSep ((talkRd P M).duties (cell c f i) 0 \ ∅) (fun d => (talkRd P M).payload (cell c f i) 0 d) = pay P M c f i := by
  rw [Finset.sdiff_empty, duties_cell, bigSep_singleton, payload_cell]

/-! ## Levels and dues -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier before the reduce-scatter's arrivals, those before the all-gather's, everything else first. -/
def lvAt : SemLoc sig → ℕ
  | .reg _ => 1
  | .dma s => if s.val < 6 then 0 else if famOf s = 1 then 2 else if famOf s = 3 then 3 else 0
def lv (g : GSem nD τ sig) (_ : Unit) : ℕ := lvAt g.2

theorem lv_bar (c : Dev nD) (u : Unit) : lv (barCell c) u = 1 := rfl
theorem lv_cell (c : Dev nD) (f : Fin 4) (i : Fin 31) (u : Unit) : lv (cell c f i) u = if f = 1 then 2 else if f = 3 then 3 else 0 := by
  show (if (dsem f i).val < 6 then 0 else if famOf (dsem f i) = 1 then 2 else if famOf (dsem f i) = 3 then 3 else 0) = _
  rw [famOf_dsem, if_neg (by rw [dsem_val]; omega)]

/-- The barrier units device `c` owes to the neighbours of the rounds in `S`. -/
def oweB (c : Dev nD) (S : Finset (Fin 31)) : CellTallies nD τ sig Unit := ∑ i ∈ S, tallyAt (barCell (nxt c i)) () 1
/-- The arrivals of family `f` device `c` owes to the neighbours of the rounds in `S`. -/
def oweC (c : Dev nD) (f : Fin 4) (S : Finset (Fin 31)) : CellTallies nD τ sig Unit := ∑ i ∈ S, tallyAt (cell (nxt c i) f (rev i)) () N

/-- Everything device `c` owes when the kernel starts. -/
def O₀ (c : Dev nD) : CellTallies nD τ sig Unit := oweC c 3 Finset.univ + oweC c 1 Finset.univ + oweB c Finset.univ

/-- All that is owed is owed to TensorCores, above level `b`. -/
def Above (b : ℕ) (O : CellTallies nD τ sig Unit) : Prop := ∀ g u, 0 < O g u → u ∈ L g ∧ b < lv g u

theorem above_zero (b : ℕ) : Above b 0 := fun g u h => absurd h (Nat.lt_irrefl 0)
theorem above_add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0
theorem above_tally {b : ℕ} {c : Dev nD} {s : SemLoc sig} {k : ℕ} (hb : b < lv ((c : Thread nD τ), s) ()) : Above b (tallyAt ((c : Thread nD τ), s) () k) := by
  intro g u hg
  rw [tallyAt_apply] at hg
  by_cases h : g = ((c : Thread nD τ), s) ∧ u = ()
  · rw [h.1, L_tc]; exact ⟨Finset.mem_singleton_self _, hb⟩
  · rw [if_neg h] at hg; exact absurd hg (Nat.lt_irrefl 0)
theorem above_sum {b : ℕ} (S : Finset (Fin 31)) (O : Fin 31 → CellTallies nD τ sig Unit) (h : ∀ i, Above b (O i)) : Above b (∑ i ∈ S, O i) :=
  Finset.sum_induction O (Above b) (fun _ _ => above_add) (above_zero b) fun i _ => h i
theorem above_oweB {b : ℕ} (hb : b < 1) (c : Dev nD) (S : Finset (Fin 31)) : Above b (oweB c S) := above_sum S _ fun _ => above_tally hb
theorem above_oweC1 {b : ℕ} (hb : b < 2) (c : Dev nD) (S : Finset (Fin 31)) : Above b (oweC c 1 S) :=
  above_sum S _ fun i => above_tally (by rw [lv_cell]; exact hb)
theorem above_oweC3 {b : ℕ} (hb : b < 3) (c : Dev nD) (S : Finset (Fin 31)) : Above b (oweC c 3 S) :=
  above_sum S _ fun i => above_tally (by rw [lv_cell]; exact hb)

theorem mayWait_above (c : Dev nD) (s : SemLoc sig) {O : CellTallies nD τ sig Unit} (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => (h g u hg).1)
    (fun p hp => by rw [Finset.mem_singleton.mp hp])
    (fun g u hg => (h g u hg).2)

theorem oweB_step (c : Dev nD) {k : ℕ} (hk : k < 31) : oweB c (up k) = oweB c (up (k + 1)) + tallyAt (barCell (nxt c ⟨k, hk⟩)) () 1 := by
  unfold oweB; rw [up_step hk, Finset.sum_insert (not_mem_up hk), add_comm]
theorem oweC_step (c : Dev nD) (f : Fin 4) {k : ℕ} (hk : k < 31) :
    oweC c f (up k) = oweC c f (up (k + 1)) + tallyAt (cell (nxt c ⟨k, hk⟩) f (rev ⟨k, hk⟩)) () N := by
  unfold oweC; rw [up_step hk, Finset.sum_insert (not_mem_up hk), add_comm]
theorem oweB_last (c : Dev nD) : oweB c (up 31) = 0 := by unfold oweB; rw [up_last, Finset.sum_empty]
theorem oweC_last (c : Dev nD) (f : Fin 4) : oweC c f (up 31) = 0 := by unfold oweC; rw [up_last, Finset.sum_empty]

/-! ## What every device may consult -/

/-- The invariants of all the cells of all the devices, at the names `K`. -/
def invs (K : GSem nD τ sig → ℕ) : sProp 𝕄 :=
  iprop((bigSep Finset.univ fun c : Dev nD => cellInv ER (talkRd P M) (K (barCell c)) (barCell c))
    ∗ bigSep Finset.univ fun x : Dev nD × Fin 4 × Fin 31 => cellInv ER (talkRd P M) (K (cell x.1 x.2.1 x.2.2)) (cell x.1 x.2.1 x.2.2))

def ctx (K : GSem nD τ sig → ℕ) : sProp 𝕄 := iprop(invs P M K ∗ levAts L lv)

instance invs_persistent (K : GSem nD τ sig → ℕ) : BI.Persistent (invs P M K) := by unfold invs; infer_instance
instance ctx_persistent (K : GSem nD τ sig → ℕ) : BI.Persistent (ctx P M K) := by unfold ctx; infer_instance

theorem inv_bar (K : GSem nD τ sig → ℕ) (c : Dev nD) : ctx P M K ⊢ cellInv ER (talkRd P M) (K (barCell c)) (barCell c) := by
  have h : (bigSep Finset.univ fun c : Dev nD => cellInv ER (talkRd P M) (K (barCell c)) (barCell c) : sProp 𝕄)
      ⊢ cellInv ER (talkRd P M) (K (barCell c)) (barCell c) := bigSep_elim (Finset.mem_univ c)
  unfold ctx invs
  iintro ⟨⟨H, -⟩, -⟩
  iapply h; iexact H
theorem inv_cell (K : GSem nD τ sig → ℕ) (c : Dev nD) (f : Fin 4) (i : Fin 31) :
    ctx P M K ⊢ cellInv ER (talkRd P M) (K (cell c f i)) (cell c f i) := by
  have h : (bigSep Finset.univ fun x : Dev nD × Fin 4 × Fin 31 =>
        cellInv ER (talkRd P M) (K (cell x.1 x.2.1 x.2.2)) (cell x.1 x.2.1 x.2.2) : sProp 𝕄)
      ⊢ cellInv ER (talkRd P M) (K (cell c f i)) (cell c f i) := bigSep_elim (Finset.mem_univ (c, f, i))
  unfold ctx invs
  iintro ⟨⟨-, H⟩, -⟩
  iapply h; iexact H
theorem ctx_mayWait (K : GSem nD τ sig → ℕ) (c : Dev nD) (s : SemLoc sig) {O : CellTallies nD τ sig Unit}
    (h : Above (lv ((c : Thread nD τ), s) ()) O) : ctx P M K ⊢ MayWait (c : Thread nD τ) s () O := by
  refine BIBase.Entails.trans ?_ (mayWait_above c s h)
  unfold ctx
  iintro ⟨-, H⟩
  iexact H

end Cert.KernelIdeal.Talk
-- ==== Proof.Ideal.Steps.lean ====
/-
  One rule per kind of step of the kernel: each takes a state of the protocol at
  round k to the state at round k + 1.
-/
module

public import proofs.«01_k».proof.Proof.Ideal.Proto

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Vec F S32x32x1024 .bf16) (M : Dev nD → Vec F S32x1024 .bf16)

/-! ## A family of things worked through in order -/

theorem up_take (A : Fin 31 → sProp 𝕄) {k : ℕ} (hk : k < 31) : bigSep (up k) A = iprop(A ⟨k, hk⟩ ∗ bigSep (up (k + 1)) A) := by
  rw [up_step hk]; exact BI.bigSep_insert (not_mem_up hk)
theorem dn_put (A : Fin 31 → sProp 𝕄) {k : ℕ} (hk : k < 31) : bigSep (dn (k + 1)) A = iprop(A ⟨k, hk⟩ ∗ bigSep (dn k) A) := by
  rw [dn_step hk]; exact BI.bigSep_insert (not_mem_dn hk)
theorem dn_at (A : Fin 31 → sProp 𝕄) {k i : ℕ} (hi : i < 31) (h : i < k) :
    bigSep (dn k) A = iprop(A ⟨i, hi⟩ ∗ bigSep ((dn k).erase ⟨i, hi⟩) A) := BI.bigSep_erase ((mem_dn _).2 h)

/-! ## The device a copy or a signal addresses, as the kernel computes it -/

/-- The device `w` places after `d` as the kernel computes it. -/
def devAt (d : Dev nD) (w : BitVec 32) : ℕ :=
  (Scalar.addi 0#32 (Scalar.muli (Scalar.remsi (Scalar.addi (Scalar.remsi (Scalar.divsi (Dev.word d) 1#32) 32#32) w) 32#32) 1#32)).toNat
theorem devAt_eq : ∀ (d : Dev nD) (r : Fin 31), devAt d (BitVec.ofNat 32 (1 + r.val)) = (d.val + r.val + 1) % 32 := by decide +kernel
theorem devAt_nxt (d : Dev nD) {k : ℕ} (hk : k < 31) (h : devAt d (BitVec.ofNat 32 (1 + k)) < nD) :
    (⟨devAt d (BitVec.ofNat 32 (1 + k)), h⟩ : Dev nD) = nxt d ⟨k, hk⟩ := Fin.ext (devAt_eq d ⟨k, hk⟩)

/-! ## The states -/

variable (K : GSem nD τ sig → ℕ) (c : Dev nD)

/-- What one signal needs: the two own slots it hands over, its duty. -/
def sigItem (c : Dev nD) (i : Fin 31) : sProp 𝕄 :=
  iprop(reached ER (barCell (nxt c i)) 0 ∗ reached ER (cell c 1 i) 0 ∗ reached ER (cell c 3 i) 0
    ∗ dutyTok ER (barCell (nxt c i)) 0 (rev i) ∗ (∃ f, rsPts c i f) ∗ (∃ f, agPts c i f))
/-- What device `c` owes, with some set of waits recorded. -/
def due (c : Dev nD) (O : CellTallies nD τ sig Unit) : sProp 𝕄 := iprop(∃ W, owes (c : Thread nD τ) O W)

/-- Before signal `k`. -/
def SigSt (c : Dev nD) (k : ℕ) : sProp 𝕄 :=
  iprop(due c (oweC c 3 Finset.univ + oweC c 1 Finset.univ + oweB c (up k)) ∗ bigSep (up k) (sigItem c))

/-- What one copy of the reduce-scatter needs besides the slot. -/
def rsItem (c : Dev nD) (i : Fin 31) : sProp 𝕄 :=
  iprop(dutyTok ER (cell c 0 i) 0 0 ∗ reached ER (cell c 0 i) 0 ∗ dutyTok ER (cell (nxt c i) 1 (rev i)) 0 0)
/-- The slot on the receiver a copy of the reduce-scatter writes. -/
def rsDst (c : Dev nD) (i : Fin 31) : sProp 𝕄 := iprop((∃ f, rsPts (nxt c i) (rev i) f) ∗ reached ER (cell (nxt c i) 1 (rev i)) 0)
/-- What one copy of the all-gather needs besides the slot. -/
def agItem (c : Dev nD) (i : Fin 31) : sProp 𝕄 :=
  iprop(dutyTok ER (cell c 2 i) 0 0 ∗ reached ER (cell c 2 i) 0 ∗ dutyTok ER (cell (nxt c i) 3 (rev i)) 0 0)
/-- The slot on the receiver a copy of the all-gather writes. -/
def agDst (c : Dev nD) (i : Fin 31) : sProp 𝕄 := iprop((∃ f, agPts (nxt c i) (rev i) f) ∗ reached ER (cell (nxt c i) 3 (rev i)) 0)

/-- Before copy `k` of the reduce-scatter. -/
def RsSt (c : Dev nD) (k : ℕ) : sProp 𝕄 :=
  iprop(due c (oweC c 3 Finset.univ + oweC c 1 (up k))
    ∗ bigSep (up k) (fun i => iprop(rsItem c i ∗ rsDst c i ∗ partPts c (nxt c i) (P c)))
    ∗ bigSep (dn k) (fun i => cred (tallyAt (cell c 0 i) () N)))
/-- Before copy `k` of the all-gather. -/
def AgSt (c : Dev nD) (k : ℕ) : sProp 𝕄 :=
  iprop(due c (oweC c 3 (up k))
    ∗ bigSep (up k) (fun i => iprop(agItem c i ∗ agDst c i ∗ redPts c (shr i) (M c)))
    ∗ bigSep (dn k) (fun i => cred (tallyAt (cell c 2 i) () N)))

/-- Before wait `k` of family `f`, owing `O`. -/
def WaitSt (c : Dev nD) (f : Fin 4) (O : CellTallies nD τ sig Unit) (k : ℕ) : sProp 𝕄 :=
  iprop(due c O ∗ bigSep (up k) (fun i => iprop(cred (tallyAt (cell c f i) () N) ∗ atPos ER (cell c f i) 0 ∅ 0))
    ∗ bigSep (dn k) (fun i => iprop(atPos ER (cell c f i) 1 ∅ 0 ∗ pay P M c f i)))

variable {α : Type} {Q : α → sProp (MT nD τ sig Unit (Elt F) ℕ UU ℕ)} {Fr : sProp (MT nD τ sig Unit (Elt F) ℕ UU ℕ)}

local notation "wpc" => wp frame (wpE (defs₀ (F := F)) 𝒱₀ (c : Thread nD τ) none) Set.univ

/-- A signal: the two own slots of round `k` go to the neighbour. -/
theorem sig_step {k : ℕ} {hd : devAt c (BitVec.ofNat 32 (1 + k)) < nD} {n : ℤ}
    {cont : PUnit → Prog (TpuEff nD τ sig (Elt F) Λ₀ .tc) α}
    (hk : k < 31) (hn : n = ((1 : ℕ) : ℤ))
    (h : iprop(ctx P M K ∗ Fr ∗ SigSt c (k + 1)) ⊢ wpc (cont ⟨⟩) Q) :
    iprop(ctx P M K ∗ Fr ∗ SigSt c k)
      ⊢ wpc (.op (.semSignal (Dev.tc (⟨devAt c (BitVec.ofNat 32 (1 + k)), hd⟩ : Dev nD)) barS n) cont) Q := by
  subst hn
  rw [devAt_nxt c hk]
  unfold SigSt due
  rw [up_take (sigItem c) hk, oweB_step c hk]
  unfold sigItem
  iintro ⟨#Hc, HF, ⟨%W, HO⟩, ⟨#HrB, #HrR, #HrA, Ht, Hs, Ha⟩, HI⟩
  iapply (Rounds.wp_signal 𝒱₀ ER (talkRd P M) (c : Thread nD τ) none (dst := (nxt c ⟨k, hk⟩ : Thread nD τ)) (sem := barS) (r := 0) (d := rev ⟨k, hk⟩)
      (κ := K (barCell (nxt c ⟨k, hk⟩)))
      (by rw [duties_bar]; exact Finset.mem_univ _) (amount_bar P M _ _) () (oweC c 3 Finset.univ + oweC c 1 Finset.univ + oweB c (up (k + 1))) (by rw [add_assoc]))
    $$ [HO Ht Hs Ha]
  · isplitr; · iapply (inv_bar P M K (nxt c ⟨k, hk⟩)); iexact Hc
    isplitl [HO]; · iexact HO
    isplitl [Ht]; · iexact Ht
    isplitl [Hs Ha]
    · rw [payload_bar]; unfold barPay; rw [nxt_rev, rev_rev]
      isplitl [Hs]; · iexact Hs
      isplitl [Ha]; · iexact Ha
      isplitr; · iexact HrR
      iexact HrA
    · iexact HrB
  iintro HO
  iapply h
  unfold SigSt due
  isplitr; · iexact Hc
  isplitl [HF]; · iexact HF
  isplitl [HO]; · iexists W; iexact HO
  iexact HI

theorem bar_split (c : Dev nD) (i : Fin 31) : (barPay c i : sProp 𝕄) ⊢ iprop(rsDst c i ∗ agDst c i) := by
  unfold barPay rsDst agDst
  iintro ⟨H1, H2, H3, H4⟩
  isplitl [H1 H3]
  · isplitl [H1] <;> iassumption
  · isplitl [H2] <;> iassumption

/-- The wait on the barrier: every neighbour's two slots come. -/
theorem bar_step {n : ℤ} {cont : PUnit → Prog (TpuEff nD τ sig (Elt F) Λ₀ .tc) α} {O : CellTallies nD τ sig Unit}
    (hn : n = ((31 : ℕ) : ℤ)) (hO : Above 1 O)
    (h : iprop(ctx P M K ∗ Fr ∗ due c O ∗ atPos ER (barCell c) 1 ∅ 0 ∗ bigSep Finset.univ (fun i => iprop(rsDst c i ∗ agDst c i))) ⊢ wpc (cont ⟨⟩) Q) :
    iprop(ctx P M K ∗ Fr ∗ due c O ∗ atPos ER (barCell c) 0 ∅ 0 ∗ cred (tallyAt (barCell c) () 31))
      ⊢ wpc (.op (.semWait barS n) cont) Q := by
  subst hn
  have hsplit : (bigSep Finset.univ fun d => barPay c d : sProp 𝕄) ⊢ bigSep Finset.univ (fun i => iprop(rsDst c i ∗ agDst c i)) :=
    bigSep_mono fun i _ => bar_split c i
  unfold due
  iintro ⟨#Hc, HF, ⟨%W, HO⟩, HA, HC⟩
  iapply (Rounds.wp_wait_rest_token 𝒱₀ ER (talkRd P M) (c : Thread nD τ) none (κ := K (barCell c))
      (wpE_semWait_eq 𝒱₀ (c : Thread nD τ) none Set.univ) (Set.mem_univ _) () (O := O) (W := W) (R := 0) (m := 0) (T := ∅)
      ((Nat.zero_add 31).trans (expect_bar P M c).symm)) $$ [HC HO HA]
  · isplitr; · iapply (inv_bar P M K c); iexact Hc
    isplitl [HC]; · iexact HC
    isplitl [HO]; · iexact HO
    isplitr; · iapply (ctx_mayWait P M K c (.reg barS) hO); iexact Hc
    iexact HA
  iintro ⟨HO, HA, -, Hpay⟩
  ihave Hp := ((Entails.of_eq (rest_bar P M c)).trans hsplit) $$ Hpay
  iapply h
  unfold due
  isplitr; · iexact Hc
  isplitl [HF]; · iexact HF
  isplitl [HO]; · iexists (insert (SemLoc.reg barS, ()) W); iexact HO
  isplitl [HA]; · iexact HA
  iexact Hp

/-- A copy of the reduce-scatter: block `nxt c k` of the partial products to the neighbour's slot. -/
theorem rs_send {k : ℕ} {hd : devAt c (BitVec.ofNat 32 (1 + k)) < nD} {h5 h6 ho ho' hsc hsrc hdst hsem}
    {cont : PUnit → Prog (TpuEff nD τ sig (Elt F) Λ₀ .tc) α} (hk : k < 31)
    (h : iprop(ctx P M K ∗ Fr ∗ RsSt P c (k + 1)) ⊢ wpc (cont ⟨⟩) Q) :
    iprop(ctx P M K ∗ Fr ∗ RsSt P c k)
      ⊢ wpc (.op (.enqueueDma (partB (k0_off1 c (BitVec.ofNat 32 (1 + k))) ho)
          (.remote (Dev.tc (⟨devAt c (BitVec.ofNat 32 (1 + k)), hd⟩ : Dev nD)) (rsB ![30 - k, 0, 0] ho')
            (.dma ((cc0_scratch5.slice (Rect.unit (s := S31) ![k] S1.size h5)).squeeze S_ squeezes_S1_S_).sem) hsc)
          (.dma ((cc0_scratch6.slice (Rect.unit (s := S31) ![30 - k] S1.size h6)).squeeze S_ squeezes_S1_S_).sem) hsrc hdst hsem) cont) Q := by
  have hd' := devAt_nxt c hk hd
  have e5 := rsS_sem hk h5
  have e6 := rsR_sem (k := 30 - k) (by omega) h6
  have eo : k0_off1 c (BitVec.ofNat 32 (1 + k)) = ![(nxt c ⟨k, hk⟩).val, 0, 0] := k0_off1_eq c ⟨k, hk⟩
  generalize (⟨devAt c (BitVec.ofNat 32 (1 + k)), hd⟩ : Dev nD) = n at *
  generalize ((cc0_scratch5.slice (Rect.unit (s := S31) ![k] S1.size h5)).squeeze S_ squeezes_S1_S_).sem = s5 at *
  generalize ((cc0_scratch6.slice (Rect.unit (s := S31) ![30 - k] S1.size h6)).squeeze S_ squeezes_S1_S_).sem = s6 at *
  generalize k0_off1 c (BitVec.ofNat 32 (1 + k)) = o at *
  subst hd' e5 e6 eo
  unfold RsSt
  rw [up_take _ hk, oweC_step c 1 hk]
  unfold rsItem rsDst due
  iintro ⟨#Hc, HF, ⟨%W, HO⟩, ⟨⟨⟨Ht, #Hr, Ht'⟩, ⟨⟨%fd, Hd⟩, #Hr'⟩, Hs⟩, HI⟩, HC⟩
  iapply (Rounds.wp_send_pointsTo 𝒱₀ ER (talkRd P M) (c : Thread nD τ) none (c' := (nxt c ⟨k, hk⟩ : Thread nD τ)) (src := partD (nxt c ⟨k, hk⟩)) (dst := rsD (rev ⟨k, hk⟩))
      (sS := .dma (dsem 0 ⟨k, hk⟩)) (sem := .dma (dsem 1 (rev ⟨k, hk⟩))) (q := fullShare) (fs := P c) (κ₁ := K (cell c 0 ⟨k, hk⟩)) (κ₂ := K (cell (nxt c ⟨k, hk⟩) 1 (rev ⟨k, hk⟩)))
      (r₁ := 0) (r₂ := 0) (d₁ := 0) (d₂ := 0) (fd := fd)
      (by rw [duties_cell]; exact Finset.mem_singleton_self _) (by rw [duties_cell]; exact Finset.mem_singleton_self _)
      () () N rfl (amount_cell P M _ _ _ _) (amount_cell P M _ _ _ _) (oweC c 3 Finset.univ + oweC c 1 (up (k + 1))) (by rw [add_assoc]) (W := W)
      (by rw [payload_cell]; exact BI.Entails.refl _)
      (by rw [payload_cell]
          exact Entails.of_eq (pointsTo_congr (landed_rs P c ⟨k, hk⟩ fd)))) $$ [Hs Hd HO Ht Ht']
  · isplitr; · iapply (inv_cell P M K c 0 ⟨k, hk⟩); iexact Hc
    isplitr; · iapply (inv_cell P M K (nxt c ⟨k, hk⟩) 1 (rev ⟨k, hk⟩)); iexact Hc
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨HcS, HO⟩
  iapply h
  unfold RsSt
  rw [dn_put _ hk]
  unfold rsItem rsDst due
  isplitr; · iexact Hc
  isplitl [HF]; · iexact HF
  isplitl [HO]; · iexists W; iexact HO
  isplitl [HI]; · iexact HI
  isplitl [HcS] <;> iassumption

/-- A copy of the all-gather: the reduced rows to the neighbour's slot. -/
theorem ag_send {k : ℕ} {hd : devAt c (BitVec.ofNat 32 (1 + k)) < nD} {h5 h6 ho' hsc hsrc hdst hsem}
    {cont : PUnit → Prog (TpuEff nD τ sig (Elt F) Λ₀ .tc) α} (hk : k < 31)
    (h : iprop(ctx P M K ∗ Fr ∗ AgSt M c (k + 1)) ⊢ wpc (cont ⟨⟩) Q) :
    iprop(ctx P M K ∗ Fr ∗ AgSt M c k)
      ⊢ wpc (.op (.enqueueDma redM
          (.remote (Dev.tc (⟨devAt c (BitVec.ofNat 32 (1 + k)), hd⟩ : Dev nD)) (agB ![30 - k, 0, 0] ho')
            (.dma ((cc0_scratch7.slice (Rect.unit (s := S31) ![k] S1.size h5)).squeeze S_ squeezes_S1_S_).sem) hsc)
          (.dma ((cc0_scratch8.slice (Rect.unit (s := S31) ![30 - k] S1.size h6)).squeeze S_ squeezes_S1_S_).sem) hsrc hdst hsem) cont) Q := by
  have hd' := devAt_nxt c hk hd
  have e5 := agS_sem hk h5
  have e6 := agR_sem (k := 30 - k) (by omega) h6
  generalize (⟨devAt c (BitVec.ofNat 32 (1 + k)), hd⟩ : Dev nD) = n at *
  generalize ((cc0_scratch7.slice (Rect.unit (s := S31) ![k] S1.size h5)).squeeze S_ squeezes_S1_S_).sem = s5 at *
  generalize ((cc0_scratch8.slice (Rect.unit (s := S31) ![30 - k] S1.size h6)).squeeze S_ squeezes_S1_S_).sem = s6 at *
  subst hd' e5 e6
  unfold AgSt
  rw [up_take _ hk, oweC_step c 3 hk]
  unfold agItem agDst due
  iintro ⟨#Hc, HF, ⟨%W, HO⟩, ⟨⟨⟨Ht, #Hr, Ht'⟩, ⟨⟨%fd, Hd⟩, #Hr'⟩, Hs⟩, HI⟩, HC⟩
  iapply (Rounds.wp_send_pointsTo 𝒱₀ ER (talkRd P M) (c : Thread nD τ) none (c' := (nxt c ⟨k, hk⟩ : Thread nD τ)) (src := redM) (dst := agD (rev ⟨k, hk⟩))
      (sS := .dma (dsem 2 ⟨k, hk⟩)) (sem := .dma (dsem 3 (rev ⟨k, hk⟩))) (q := shr ⟨k, hk⟩) (fs := M c) (κ₁ := K (cell c 2 ⟨k, hk⟩)) (κ₂ := K (cell (nxt c ⟨k, hk⟩) 3 (rev ⟨k, hk⟩)))
      (r₁ := 0) (r₂ := 0) (d₁ := 0) (d₂ := 0) (fd := fd)
      (by rw [duties_cell]; exact Finset.mem_singleton_self _) (by rw [duties_cell]; exact Finset.mem_singleton_self _)
      () () N rfl (amount_cell P M _ _ _ _) (amount_cell P M _ _ _ _) (oweC c 3 (up (k + 1))) rfl (W := W)
      (by rw [payload_cell]; exact BI.Entails.refl _)
      (by rw [payload_cell]
          exact Entails.of_eq (pointsTo_congr (landed_ag M c ⟨k, hk⟩ fd)))) $$ [Hs Hd HO Ht Ht']
  · isplitr; · iapply (inv_cell P M K c 2 ⟨k, hk⟩); iexact Hc
    isplitr; · iapply (inv_cell P M K (nxt c ⟨k, hk⟩) 3 (rev ⟨k, hk⟩)); iexact Hc
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨HcS, HO⟩
  iapply h
  unfold AgSt
  rw [dn_put _ hk]
  unfold agItem agDst due
  isplitr; · iexact Hc
  isplitl [HF]; · iexact HF
  isplitl [HO]; · iexists W; iexact HO
  isplitl [HI]; · iexact HI
  isplitl [HcS] <;> iassumption

/-- A wait of family `f`: what was paid comes. -/
theorem wait_step (f : Fin 4) {k : ℕ} {O : CellTallies nD τ sig Unit} {s : DmaSem sig}
    {sp sp' : Space} {sh sh' : Shape} {e e' : EltTy} {src : Memref sig .tc sp' sh' e'} {dst : Memref sig .tc sp sh e} {hsrc hdst}
    {cont : PUnit → Prog (TpuEff nD τ sig (Elt F) Λ₀ .tc) α} (hk : k < 31) (hs : s = dsem f ⟨k, hk⟩) (hN : dst.view.dmaCredit = N)
    (hO : Above (lv (cell c f ⟨k, hk⟩) ()) O)
    (h : iprop(ctx P M K ∗ Fr ∗ WaitSt P M c f O (k + 1)) ⊢ wpc (cont ⟨⟩) Q) :
    iprop(ctx P M K ∗ Fr ∗ WaitSt P M c f O k) ⊢ wpc (.op (.waitDma2 s src dst hsrc hdst) cont) Q := by
  subst hs
  unfold WaitSt
  rw [up_take _ hk]
  unfold due
  iintro ⟨#Hc, HF, ⟨%W, HO⟩, ⟨⟨HC, HA⟩, HU⟩, HD⟩
  iapply (Rounds.wp_wait_rest_token 𝒱₀ ER (talkRd P M) (c : Thread nD τ) none (κ := K (cell c f ⟨k, hk⟩))
      (wpE_waitDma2_eq 𝒱₀ (c : Thread nD τ) none Set.univ) (Set.mem_univ _) () (O := O) (W := W) (R := 0) (m := 0) (T := ∅)
      ((Nat.zero_add _).trans (hN.trans (expect_cell P M c f ⟨k, hk⟩).symm))) $$ [HC HO HA]
  · isplitr; · iapply (inv_cell P M K c f ⟨k, hk⟩); iexact Hc
    isplitl [HC]; · rw [hN]; iexact HC
    isplitl [HO]; · iexact HO
    isplitr; · iapply (ctx_mayWait P M K c (.dma (dsem f ⟨k, hk⟩)) hO); iexact Hc
    iexact HA
  iintro ⟨HO, HA, -, Hpay⟩
  ihave Hp := (Entails.of_eq (rest_cell P M c f ⟨k, hk⟩)) $$ Hpay
  iapply h
  unfold WaitSt
  rw [dn_put _ hk]
  unfold due
  isplitr; · iexact Hc
  isplitl [HF]; · iexact HF
  isplitl [HO]; · iexists (insert (SemLoc.dma (dsem f ⟨k, hk⟩), ()) W); iexact HO
  isplitl [HU]; · iexact HU
  isplitl [HA Hp]
  · isplitl [HA] <;> iassumption
  iexact HD

end Cert.KernelIdeal.Talk
-- ==== Proof.Ideal.Values.lean ====
/-
  What the kernel computes, step by step: each device's rows of context, its partial
  products, the rows it reduces and the result it assembles.
-/
module

public import proofs.«01_k».proof.Proof.Ideal.Steps

@[expose] public section

noncomputable section

namespace Cert.KernelIdeal.Talk

open Cert.KernelIdeal Cert.KernelIdeal.Gen
open Idealize.ShloMosaic Idealize.ShloMosaic.TcCoe Idealize.ShloMosaic.ValueIdx

variable {F : FTy → Type} [FloatOps F]

/-- The five operands of the kernel on one device. -/
structure Ins (F : FTy → Type) where
  x : Vec F S1024x1024 .bf16
  wq : Vec F S1024x1024 .bf16
  k : Vec F S8x1024x128 .bf16
  v : Vec F S8x1024x128 .bf16
  wo : Vec F S1024x1024 .bf16

/-! ## Accesses -/

/-- One head of a buffer of eight. -/
def headOf (f : Vec F S8x1024x128 .bf16) (h : Fin 8) : Vec F S1x1024x128 .bf16 := fun y => f (ix3 h (y 1) (y 2))
/-- One slot of a buffer of 31. -/
def slotOf (f : Vec F S31x32x1024 .bf16) (s : ℕ) : Vec F S1x32x1024 .bf16 := fun y => f (ix3 (Fin.ofNat 31 s) (y 1) (y 2))
/-- One block of a buffer of 32. -/
def blockOf {e : EltTy} (f : Vec F S32x32x1024 e) (d : Dev nD) : Vec F S1x32x1024 e := fun y => f (ix3 d (y 1) (y 2))

theorem lead_emb {n R C : ℕ} {b : ℕ} (hb : b < n) (h : ∀ a, (![b, 0, 0] : Fin 3 → ℕ) a + (⟨3, ![1, R, C]⟩ : Shape).size a ≤ (⟨3, ![n, R, C]⟩ : Shape).size a)
    (y : (⟨3, ![1, R, C]⟩ : Shape).Idx) :
    (Rect.unit (s := ⟨3, ![n, R, C]⟩) ![b, 0, 0] (⟨3, ![1, R, C]⟩ : Shape).size h).emb y = ix3 (⟨b, hb⟩ : Fin n) (y 1) (y 2) := by
  funext a
  apply Fin.ext
  rw [Rect.emb_apply]
  match a with
  | ⟨0, _⟩ => show b + 1 * (y 0).val = b; have h0 : (y 0).val < 1 := (y 0).isLt; omega
  | ⟨1, _⟩ => show 0 + 1 * (y 1).val = (y 1).val; omega
  | ⟨2, _⟩ => show 0 + 1 * (y 2).val = (y 2).val; omega

theorem all_emb {R C : ℕ} (h : ∀ a, (![0, 0] : Fin 2 → ℕ) a + (⟨2, ![R, C]⟩ : Shape).size a ≤ (⟨2, ![R, C]⟩ : Shape).size a)
    (y : (⟨2, ![R, C]⟩ : Shape).Idx) :
    (Rect.unit (s := ⟨2, ![R, C]⟩) ![0, 0] (⟨2, ![R, C]⟩ : Shape).size h).emb y = y := by
  funext a
  apply Fin.ext
  rw [Rect.emb_apply]
  match a with
  | ⟨0, _⟩ => show 0 + 1 * (y 0).val = (y 0).val; omega
  | ⟨1, _⟩ => show 0 + 1 * (y 1).val = (y 1).val; omega

theorem cols_emb {o : ℕ} (h : ∀ a, (![0, o] : Fin 2 → ℕ) a + S1024x128.size a ≤ S1024x1024.size a) (y : S1024x128.Idx) (hy : o + (y 1).val < 1024) :
    (Rect.unit (s := S1024x1024) ![0, o] S1024x128.size h).emb y = ix2 (y 0) (⟨o + (y 1).val, hy⟩ : Fin 1024) := by
  funext a
  apply Fin.ext
  rw [Rect.emb_apply]
  match a with
  | ⟨0, _⟩ => show 0 + 1 * (y 0).val = (y 0).val; omega
  | ⟨1, _⟩ => show o + 1 * (y 1).val = o + (y 1).val; omega

/-! ## The context rows -/

theorem slices_head (h : Fin 8) : S1024x1024.Slices ![0, 128 * h.val] S1024x128 := by
  revert h; decide

/-- One head: scores, mask, softmax over the keys, and the product with the values. -/
def headVal (q : FVec F S1024x1024 .f32) (h : Fin 8) (kb vb : Vec F S1x1024x128 .bf16) : FVec F S1024x128 .bf16 :=
  let qh := truncf .bf16 (mulf (extractStridedSlice S1024x128 ![0, 128 * h.val] q (slices_head h)) (broadcast S1024x128 (Scalar.ofBits .f32 0x3DB504F3#32 : F .f32))) bitsLt_bf16_f32
  let s := matmul dot_S1024x128_S1024x128_S1024x1024_1_1_0_0_n_n none qh (shapeCast S1024x128 kb shapeCasts_S1x1024x128_S1024x128) (constant S1024x1024 .f32 0x00000000#32)
  let sm := select k0_pay2 s (broadcast S1024x1024 (Scalar.ofBits .f32 0xCE6E6B28#32 : F .f32))
  let mx := multiReduction .maximumf [1] S1024 sm 0xFF800000#32 reduces_S1024x1024_S1024 (.inl rfl) rfl
  let e := exp (subf sm (broadcastTo S1024x1024 (shapeCast S1024x1 mx shapeCasts_S1024_S1024x1) broadcasts_S1024x1_S1024x1024))
  let d := multiReduction .add [1] S1024 e 0x00000000#32 reduces_S1024x1024_S1024 (.inl rfl) rfl
  let p := truncf .bf16 (divf e (broadcastTo S1024x1024 (shapeCast S1024x1 d shapeCasts_S1024_S1024x1) broadcasts_S1024x1_S1024x1024)) bitsLt_bf16_f32
  let o := matmul dot_S1024x1024_S1024x128_S1024x128_1_0_0_1_n_n none p (shapeCast S1024x128 vb shapeCasts_S1x1024x128_S1024x128) (constant S1024x128 .f32 0x00000000#32)
  shapeCast S1024x128 (truncf .bf16 o bitsLt_bf16_f32) shapeCasts_S1024x128_S1024x128

/-- Head `h` of a device. -/
def headI (i : Ins F) (h : Fin 8) : FVec F S1024x128 .bf16 := headVal (k0_pay1 i.x i.wq) h (headOf i.k h) (headOf i.v h)

def hOf (x : S1024x1024.Idx) : Fin 8 := ⟨(x 1).val / 128, by have h : (x 1).val < 1024 := (x 1).isLt; omega⟩
def lOf (x : S1024x1024.Idx) : Fin 128 := ⟨(x 1).val % 128, Nat.mod_lt _ (by decide)⟩

/-- The context rows: head `h` in columns `128 h` to `128 h + 127`. -/
def CTX (i : Ins F) : Vec F S1024x1024 .bf16 := fun x => headI i (hOf x) (ix2 (x 0) (lOf x))

/-! ## The partial products, the reduced rows, the result -/

variable (I : Dev nD → Ins F)

def PP (c : Dev nD) : Vec F S32x32x1024 .bf16 := k0_pay19 (CTX (I c)) (I c).wo

/-- The sum of the device's own block and the first `k` slots. -/
def redN (c : Dev nD) : ℕ → FVec F S32x1024 .f32
  | 0 => k0_pay20 (blockOf (PP I c) c)
  | k + 1 => k0_pay35 (redN c k) (slotOf (RS (PP I) c) k)

def MM (c : Dev nD) : Vec F S32x1024 .bf16 := k0_pay36 (redN I c 30) (slotOf (RS (PP I) c) 30)

/-- What device `c` writes into the result. -/
def OUT (c : Dev nD) : Vec F S32x32x1024 .f32 := fun x =>
  if (x 0).val = c.val then k0_pay37 (redN I c 31) (ix3 0 (x 1) (x 2))
  else k0_pay38 (fun y => MM I (x 0) (ix2 (y 1) (y 2))) (ix3 0 (x 1) (x 2))

end Cert.KernelIdeal.Talk

end
-- ==== Proof.Ideal.Mem.lean ====
/-
  The kernel's reads and writes of the buffers of its own device.
-/
module

public import proofs.«01_k».proof.Proof.Ideal.Values

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16)
variable (K : GSem nD τ sig → ℕ) (c : Dev nD)
variable {α : Type} {Q : α → sProp (MT nD τ sig Unit (Elt F) ℕ UU ℕ)} {Fr : sProp (MT nD τ sig Unit (Elt F) ℕ UU ℕ)}

local notation "wpc" => wp frame (wpE (defs₀ (F := F)) 𝒱₀ (c : Thread nD τ) none) Set.univ

/-! ## One read, one write -/

section
variable {s : Shape} {e : EltTy} {m : Memref sig .tc .vmem s e} {r : Rect s} {St St' : sProp (MT nD τ sig Unit (Elt F) ℕ UU ℕ)}
  {S : Finset (Idx ((m.access r).loc (c : Thread nD τ)))} {q : PosShare TreeShare}

/-- A read of elements the state holds at known contents. -/
theorem ld {hl : m.view.LoadsAt r.toLoadRect} {cont : (r.toLoadRect.shape.Idx → Elt F e) → Prog (TpuEff nD τ sig (Elt F) Λ₀ .tc) α}
    {f : Buf (Elt F) ((m.access r).loc (c : Thread nD τ))} {w : r.shape.Idx → Elt F e}
    (hS : (m.access r).set ⊆ S) (hw : (m.access r).read (Elt F) f = w)
    (hget : St ⊢ iprop(((m.access r).loc (c : Thread nD τ) ↦[S]{q} f) ∗ (((m.access r).loc (c : Thread nD τ) ↦[S]{q} f) -∗ St)))
    (h : iprop(ctx P M K ∗ Fr ∗ St) ⊢ wpc (cont w) Q) :
    iprop(ctx P M K ∗ Fr ∗ St) ⊢ wpc (.op (.load m r.toLoadRect hl) cont) Q := by
  iintro ⟨#Hc, HF, HS⟩
  ihave HS' := hget $$ HS
  icases HS' with ⟨Hp, Hb⟩
  iapply (wp_load_rect 𝒱₀ (c : Thread nD τ) none Set.univ hS) $$ Hp
  iintro Hp
  rw [hw]
  iapply h
  isplitr; · iexact Hc
  isplitl [HF]; · iexact HF
  iapply Hb; iexact Hp

/-- A read whose value is not used. -/
theorem ld_any {hl : m.view.LoadsAt r.toLoadRect} {cont : (r.toLoadRect.shape.Idx → Elt F e) → Prog (TpuEff nD τ sig (Elt F) Λ₀ .tc) α}
    (hS : (m.access r).set ⊆ S)
    (hget : St ⊢ iprop(∃ f, ((m.access r).loc (c : Thread nD τ) ↦[S]{q} f) ∗ (((m.access r).loc (c : Thread nD τ) ↦[S]{q} f) -∗ St)))
    (h : ∀ w, iprop(ctx P M K ∗ Fr ∗ St) ⊢ wpc (cont w) Q) :
    iprop(ctx P M K ∗ Fr ∗ St) ⊢ wpc (.op (.load m r.toLoadRect hl) cont) Q := by
  iintro ⟨#Hc, HF, HS⟩
  ihave HS' := hget $$ HS
  icases HS' with ⟨%f, Hp, Hb⟩
  iapply (wp_load_rect 𝒱₀ (c : Thread nD τ) none Set.univ hS) $$ Hp
  iintro Hp
  iapply (h _)
  isplitr; · iexact Hc
  isplitl [HF]; · iexact HF
  iapply Hb; iexact Hp

/-- A write. -/
theorem st {w : r.shape.Idx → Elt F e} {hx : (m.access r).Stores Finset.univ} {hm}
    {cont : PUnit → Prog (TpuEff nD τ sig (Elt F) Λ₀ .tc) α}
    (hS : (m.access r).setOn Finset.univ ⊆ S)
    (hget : St ⊢ iprop(∃ f, ((m.access r).loc (c : Thread nD τ) ↦[S]{fullShare} f)
      ∗ (((m.access r).loc (c : Thread nD τ) ↦[S]{fullShare} (m.access r).write (Elt F) f w Finset.univ) -∗ St')))
    (h : iprop(ctx P M K ∗ Fr ∗ St') ⊢ wpc (cont ⟨⟩) Q) :
    iprop(ctx P M K ∗ Fr ∗ St) ⊢ wpc (.op (.store m r w Finset.univ hx hm) cont) Q := by
  iintro ⟨#Hc, HF, HS⟩
  ihave HS' := hget $$ HS
  icases HS' with ⟨%f, Hp, Hb⟩
  iapply (wp_store 𝒱₀ (c : Thread nD τ) none Set.univ hS) $$ Hp
  iintro Hp
  iapply h
  isplitr; · iexact Hc
  isplitl [HF]; · iexact HF
  iapply Hb; iexact Hp
end

/-! ## The computation on one device -/

variable (I : Dev nD → Ins F)

abbrev own {e : EltTy} {s : Shape} (m : Memref sig .tc .vmem s e) (f : Buf (Elt F) (m.view.loc (c : Thread nD τ))) : sProp (MT nD τ sig Unit (Elt F) ℕ UU ℕ) :=
  m.view.loc (c : Thread nD τ) ↦{fullShare} f

/-- The five operands in their buffers. -/
def insPts (i : Ins F) : sProp (MT nD τ sig Unit (Elt F) ℕ UU ℕ) :=
  iprop(own c (Memref.whole cc0_stg0_0) i.x ∗ own c (Memref.whole cc0_stg1_0) i.wq ∗ own c (Memref.whole cc0_stg2_0) i.k
    ∗ own c (Memref.whole cc0_stg3_0) i.v ∗ own c (Memref.whole cc0_stg4_0) i.wo)
/-- The context buffer with the first `h` heads written. -/
def ctxUp (i : Ins F) (h : ℕ) : sProp (MT nD τ sig Unit (Elt F) ℕ UU ℕ) :=
  iprop(∃ g : Vec F S1024x1024 .bf16, ⌜∀ x : S1024x1024.Idx, (x 1).val < 128 * h → g x = CTX i x⌝ ∗ own c ctxM g)
def partAny : sProp (MT nD τ sig Unit (Elt F) ℕ UU ℕ) := iprop(∃ g : Vec F S32x32x1024 .bf16, own c partM g)
/-- The buffers of the computation, `h` heads done. -/
def Cmp (i : Ins F) (h : ℕ) (pt : sProp (MT nD τ sig Unit (Elt F) ℕ UU ℕ)) : sProp (MT nD τ sig Unit (Elt F) ℕ UU ℕ) :=
  iprop(insPts c i ∗ ctxUp c i h ∗ pt)

variable {i : Ins F} {h : ℕ} {pt : sProp (MT nD τ sig Unit (Elt F) ℕ UU ℕ)}

theorem get_x : Cmp c i h pt ⊢ iprop(own c (Memref.whole cc0_stg0_0) i.x ∗ (own c (Memref.whole cc0_stg0_0) i.x -∗ Cmp c i h pt)) := by
  unfold Cmp insPts
  iintro ⟨⟨H0, H1, H2, H3, H4⟩, HC⟩
  isplitl [H0]; · iexact H0
  iintro H0
  isplitr [HC]
  · isplitl [H0]; · iexact H0
    isplitl [H1]; · iexact H1
    isplitl [H2]; · iexact H2
    isplitl [H3] <;> iassumption
  · iexact HC
theorem get_wq : Cmp c i h pt ⊢ iprop(own c (Memref.whole cc0_stg1_0) i.wq ∗ (own c (Memref.whole cc0_stg1_0) i.wq -∗ Cmp c i h pt)) := by
  unfold Cmp insPts
  iintro ⟨⟨H0, H1, H2, H3, H4⟩, HC⟩
  isplitl [H1]; · iexact H1
  iintro H1
  isplitr [HC]
  · isplitl [H0]; · iexact H0
    isplitl [H1]; · iexact H1
    isplitl [H2]; · iexact H2
    isplitl [H3] <;> iassumption
  · iexact HC
theorem get_k : Cmp c i h pt ⊢ iprop(own c (Memref.whole cc0_stg2_0) i.k ∗ (own c (Memref.whole cc0_stg2_0) i.k -∗ Cmp c i h pt)) := by
  unfold Cmp insPts
  iintro ⟨⟨H0, H1, H2, H3, H4⟩, HC⟩
  isplitl [H2]; · iexact H2
  iintro H2
  isplitr [HC]
  · isplitl [H0]; · iexact H0
    isplitl [H1]; · iexact H1
    isplitl [H2]; · iexact H2
    isplitl [H3] <;> iassumption
  · iexact HC
theorem get_v : Cmp c i h pt ⊢ iprop(own c (Memref.whole cc0_stg3_0) i.v ∗ (own c (Memref.whole cc0_stg3_0) i.v -∗ Cmp c i h pt)) := by
  unfold Cmp insPts
  iintro ⟨⟨H0, H1, H2, H3, H4⟩, HC⟩
  isplitl [H3]; · iexact H3
  iintro H3
  isplitr [HC]
  · isplitl [H0]; · iexact H0
    isplitl [H1]; · iexact H1
    isplitl [H2]; · iexact H2
    isplitl [H3] <;> iassumption
  · iexact HC
theorem get_wo : Cmp c i h pt ⊢ iprop(own c (Memref.whole cc0_stg4_0) i.wo ∗ (own c (Memref.whole cc0_stg4_0) i.wo -∗ Cmp c i h pt)) := by
  unfold Cmp insPts
  iintro ⟨⟨H0, H1, H2, H3, H4⟩, HC⟩
  isplitl [H4]; · iexact H4
  iintro H4
  isplitr [HC]
  · isplitl [H0]; · iexact H0
    isplitl [H1]; · iexact H1
    isplitl [H2]; · iexact H2
    isplitl [H3] <;> iassumption
  · iexact HC
theorem get_ctx : Cmp c i h pt ⊢ iprop(∃ g : Vec F S1024x1024 .bf16, own c ctxM g ∗ (own c ctxM g -∗ Cmp c i h pt)) := by
  unfold Cmp ctxUp
  iintro ⟨HI, ⟨%g, %hg, Hg⟩, HP⟩
  iexists g
  isplitl [Hg]; · iexact Hg
  iintro Hg
  isplitl [HI]; · iexact HI
  isplitl [Hg]
  · iexists g; isplitr; · ipureintro; exact hg
    iexact Hg
  iexact HP
theorem get_ctx_done : Cmp c i 8 pt ⊢ iprop(own c ctxM (CTX i) ∗ (own c ctxM (CTX i) -∗ Cmp c i 8 pt)) := by
  unfold Cmp ctxUp
  iintro ⟨HI, ⟨%g, %hg, Hg⟩, HP⟩
  have e : g = CTX i := funext fun x => hg x (by have h : (x 1).val < 1024 := (x 1).isLt; omega)
  subst e
  isplitl [Hg]; · iexact Hg
  iintro Hg
  isplitl [HI]; · iexact HI
  isplitl [Hg]
  · iexists (CTX i); isplitr; · ipureintro; exact fun _ _ => rfl
    iexact Hg
  iexact HP

theorem mem_cols {o : ℕ} (hb : ∀ a, (![0, o] : Fin 2 → ℕ) a + S1024x128.size a ≤ S1024x1024.size a) {x : S1024x1024.Idx}
    (hx : x ∈ (ctxM.access (Rect.unit (s := S1024x1024) ![0, o] S1024x128.size hb)).setOn Finset.univ) : o ≤ (x 1).val := by
  unfold View.setOn at hx; rw [Finset.mem_map] at hx
  obtain ⟨j, -, rfl⟩ := hx
  have e : (((Rect.unit (s := S1024x1024) ![0, o] S1024x128.size hb).emb j) 1).val = o + 1 * (j 1).val := by rw [Rect.emb_apply]; rfl
  show o ≤ (((Rect.unit (s := S1024x1024) ![0, o] S1024x128.size hb).emb j) 1).val
  omega

/-- Head `k` written after the first `k`. -/
theorem ctx_write {k : ℕ} (hk : k < 8) (hb : ∀ a, (![0, 128 * k] : Fin 2 → ℕ) a + S1024x128.size a ≤ S1024x1024.size a)
    (g : Vec F S1024x1024 .bf16) (hg : ∀ x : S1024x1024.Idx, (x 1).val < 128 * k → g x = CTX i x) (x : S1024x1024.Idx) (hx : (x 1).val < 128 * (k + 1)) :
    (ctxM.access (Rect.unit (s := S1024x1024) ![0, 128 * k] S1024x128.size hb)).write (Elt F) g (headI i ⟨k, hk⟩) Finset.univ x = CTX i x := by
  by_cases hlt : (x 1).val < 128 * k
  · rw [View.write_of_not_mem]
    · exact hg x hlt
    · intro hm; have := mem_cols hb hm; omega
  · have hl : (x 1).val - 128 * k < 128 := by omega
    have hr : (x 0).val < 1024 := (x 0).isLt
    have hr1 : (x 1).val < 1024 := (x 1).isLt
    have e : (ctxM.access (Rect.unit (s := S1024x1024) ![0, 128 * k] S1024x128.size hb)).emb (ix2 (x 0) (⟨(x 1).val - 128 * k, hl⟩ : Fin 128)) = x := by
      refine (cols_emb hb _ (by show 128 * k + ((x 1).val - 128 * k) < 1024; omega)).trans ?_
      funext a
      match a with
      | ⟨0, _⟩ => rfl
      | ⟨1, _⟩ => exact Fin.ext (by show 128 * k + ((x 1).val - 128 * k) = (x 1).val; omega)
    conv_lhs => rw [← e]
    rw [View.write_emb_of_mem _ _ (Finset.mem_univ _)]
    show headI i ⟨k, hk⟩ _ = headI i (hOf x) _
    have h1 : hOf x = ⟨k, hk⟩ := Fin.ext (by show (x 1).val / 128 = k; omega)
    have h2 : lOf x = ⟨(x 1).val - 128 * k, hl⟩ := Fin.ext (by show (x 1).val % 128 = (x 1).val - 128 * k; omega)
    rw [h1, h2]

theorem put_ctx {k : ℕ} (hk : k < 8) (hb : ∀ a, (![0, 128 * k] : Fin 2 → ℕ) a + S1024x128.size a ≤ S1024x1024.size a) :
    Cmp c i k pt ⊢ iprop(∃ g : Vec F S1024x1024 .bf16, own c ctxM g
      ∗ (own c ctxM ((ctxM.access (Rect.unit (s := S1024x1024) ![0, 128 * k] S1024x128.size hb)).write (Elt F) g (headI i ⟨k, hk⟩) Finset.univ) -∗ Cmp c i (k + 1) pt)) := by
  unfold Cmp ctxUp
  iintro ⟨HI, ⟨%g, %hg, Hg⟩, HP⟩
  iexists g
  isplitl [Hg]; · iexact Hg
  iintro Hg
  isplitl [HI]; · iexact HI
  isplitl [Hg]
  · iexists ((ctxM.access (Rect.unit (s := S1024x1024) ![0, 128 * k] S1024x128.size hb)).write (Elt F) g (headI i ⟨k, hk⟩) Finset.univ)
    isplitr; · ipureintro; exact ctx_write hk hb g hg
    iexact Hg
  iexact HP
theorem get_part : Cmp c i h (partAny c) ⊢ iprop(∃ g : Vec F S32x32x1024 .bf16, own c partM g ∗ (own c partM g -∗ Cmp c i h (partAny c))) := by
  unfold Cmp partAny
  iintro ⟨HI, HC, ⟨%g, Hg⟩⟩
  iexists g
  isplitl [Hg]; · iexact Hg
  iintro Hg
  isplitl [HI]; · iexact HI
  isplitl [HC]; · iexact HC
  iexists g; iexact Hg

end Cert.KernelIdeal.Talk

end
-- ==== Proof.Ideal.Moves.lean ====
/-
  Each read and write of the kernel, and how its buffers are cut into blocks and put together again.
-/
module

public import proofs.«01_k».proof.Proof.Ideal.Mem

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16)
variable (K : GSem nD τ sig → ℕ) (c : Dev nD)
variable {α : Type} {Q : α → sProp (MT nD τ sig Unit (Elt F) ℕ UU ℕ)} {Fr : sProp (MT nD τ sig Unit (Elt F) ℕ UU ℕ)}

local notation "wpc" => wp frame (wpE (defs₀ (F := F)) 𝒱₀ (c : Thread nD τ) none) Set.univ

variable (I : Dev nD → Ins F)

/-! ## What is read -/

theorem rd_all {e : EltTy} {R C : ℕ} {m : Memref sig .tc .vmem ⟨2, ![R, C]⟩ e} {hb : ∀ a, (![0, 0] : Fin 2 → ℕ) a + (⟨2, ![R, C]⟩ : Shape).size a ≤ (⟨2, ![R, C]⟩ : Shape).size a}
    (f : m.view.ty.Contents (Elt F)) : (m.access (Rect.unit (s := ⟨2, ![R, C]⟩) ![0, 0] (⟨2, ![R, C]⟩ : Shape).size hb)).read (Elt F) f = m.view.read (Elt F) f := by
  funext y
  rw [View.read_apply, View.read_apply]
  show _root_.cast _ (f (m.view.emb ((Rect.unit (s := ⟨2, ![R, C]⟩) ![0, 0] (⟨2, ![R, C]⟩ : Shape).size hb).emb y))) = _
  rw [all_emb]
theorem rd_lead {e : EltTy} {n R C : ℕ} {m : Memref sig .tc .vmem ⟨3, ![n, R, C]⟩ e} {b : ℕ} (hbn : b < n)
    {hb : ∀ a, (![b, 0, 0] : Fin 3 → ℕ) a + (⟨3, ![1, R, C]⟩ : Shape).size a ≤ (⟨3, ![n, R, C]⟩ : Shape).size a}
    (f : m.view.ty.Contents (Elt F)) : (m.access (Rect.unit (s := ⟨3, ![n, R, C]⟩) ![b, 0, 0] (⟨3, ![1, R, C]⟩ : Shape).size hb)).read (Elt F) f
      = fun y => m.view.read (Elt F) f (ix3 (⟨b, hbn⟩ : Fin n) (y 1) (y 2)) := by
  funext y
  rw [View.read_apply, View.read_apply]
  show _root_.cast _ (f (m.view.emb ((Rect.unit (s := ⟨3, ![n, R, C]⟩) ![b, 0, 0] (⟨3, ![1, R, C]⟩ : Shape).size hb).emb y))) = _
  rw [lead_emb hbn]
  rfl
theorem ofNat31 {s : ℕ} (h : s < 31) : Fin.ofNat 31 s = ⟨s, h⟩ := Fin.ext (Nat.mod_eq_of_lt h)

/-! ## Reads and writes of the computation -/

section
variable {i : Ins F} {h : ℕ} {pt : sProp (MT nD τ sig Unit (Elt F) ℕ UU ℕ)}

theorem ld_x {hb hl} {cont : (S1024x1024.Idx → Elt F .bf16) → Prog (TpuEff nD τ sig (Elt F) Λ₀ .tc) α}
    (hc : iprop(ctx P M K ∗ Fr ∗ Cmp c i h pt) ⊢ wpc (cont i.x) Q) :
    iprop(ctx P M K ∗ Fr ∗ Cmp c i h pt)
      ⊢ wpc (.op (.load (Memref.whole cc0_stg0_0) (Rect.unit (s := S1024x1024) ![0, 0] S1024x1024.size hb).toLoadRect hl) cont) Q :=
  ld P M K c (Finset.subset_univ _) (rd_all (R := 1024) (C := 1024) (m := Memref.whole cc0_stg0_0) (hb := hb) i.x) (get_x c) hc
theorem ld_wq {hb hl} {cont : (S1024x1024.Idx → Elt F .bf16) → Prog (TpuEff nD τ sig (Elt F) Λ₀ .tc) α}
    (hc : iprop(ctx P M K ∗ Fr ∗ Cmp c i h pt) ⊢ wpc (cont i.wq) Q) :
    iprop(ctx P M K ∗ Fr ∗ Cmp c i h pt)
      ⊢ wpc (.op (.load (Memref.whole cc0_stg1_0) (Rect.unit (s := S1024x1024) ![0, 0] S1024x1024.size hb).toLoadRect hl) cont) Q :=
  ld P M K c (Finset.subset_univ _) (rd_all (R := 1024) (C := 1024) (m := Memref.whole cc0_stg1_0) (hb := hb) i.wq) (get_wq c) hc
theorem ld_wo {hb hl} {cont : (S1024x1024.Idx → Elt F .bf16) → Prog (TpuEff nD τ sig (Elt F) Λ₀ .tc) α}
    (hc : iprop(ctx P M K ∗ Fr ∗ Cmp c i h pt) ⊢ wpc (cont i.wo) Q) :
    iprop(ctx P M K ∗ Fr ∗ Cmp c i h pt)
      ⊢ wpc (.op (.load (Memref.whole cc0_stg4_0) (Rect.unit (s := S1024x1024) ![0, 0] S1024x1024.size hb).toLoadRect hl) cont) Q :=
  ld P M K c (Finset.subset_univ _) (rd_all (R := 1024) (C := 1024) (m := Memref.whole cc0_stg4_0) (hb := hb) i.wo) (get_wo c) hc
theorem ld_k {b : ℕ} {hb hl} {cont : (S1x1024x128.Idx → Elt F .bf16) → Prog (TpuEff nD τ sig (Elt F) Λ₀ .tc) α} (hbn : b < 8)
    (hc : iprop(ctx P M K ∗ Fr ∗ Cmp c i h pt) ⊢ wpc (cont (headOf i.k ⟨b, hbn⟩)) Q) :
    iprop(ctx P M K ∗ Fr ∗ Cmp c i h pt)
      ⊢ wpc (.op (.load (Memref.whole cc0_stg2_0) (Rect.unit (s := S8x1024x128) ![b, 0, 0] S1x1024x128.size hb).toLoadRect hl) cont) Q :=
  ld P M K c (Finset.subset_univ _) (rd_lead (n := 8) (R := 1024) (C := 128) (m := Memref.whole cc0_stg2_0) hbn (hb := hb) i.k) (get_k c) hc
theorem ld_v {b : ℕ} {hb hl} {cont : (S1x1024x128.Idx → Elt F .bf16) → Prog (TpuEff nD τ sig (Elt F) Λ₀ .tc) α} (hbn : b < 8)
    (hc : iprop(ctx P M K ∗ Fr ∗ Cmp c i h pt) ⊢ wpc (cont (headOf i.v ⟨b, hbn⟩)) Q) :
    iprop(ctx P M K ∗ Fr ∗ Cmp c i h pt)
      ⊢ wpc (.op (.load (Memref.whole cc0_stg3_0) (Rect.unit (s := S8x1024x128) ![b, 0, 0] S1x1024x128.size hb).toLoadRect hl) cont) Q :=
  ld P M K c (Finset.subset_univ _) (rd_lead (n := 8) (R := 1024) (C := 128) (m := Memref.whole cc0_stg3_0) hbn (hb := hb) i.v) (get_v c) hc
theorem ld_ctx {r : Rect S1024x1024} {hl} {cont : (r.toLoadRect.shape.Idx → Elt F .bf16) → Prog (TpuEff nD τ sig (Elt F) Λ₀ .tc) α}
    (hc : ∀ w, iprop(ctx P M K ∗ Fr ∗ Cmp c i h pt) ⊢ wpc (cont w) Q) :
    iprop(ctx P M K ∗ Fr ∗ Cmp c i h pt) ⊢ wpc (.op (.load ctxM r.toLoadRect hl) cont) Q :=
  ld_any P M K c (Finset.subset_univ _) (get_ctx c) hc
theorem ld_ctx_done {hb hl} {cont : (S1024x1024.Idx → Elt F .bf16) → Prog (TpuEff nD τ sig (Elt F) Λ₀ .tc) α}
    (hc : iprop(ctx P M K ∗ Fr ∗ Cmp c i 8 pt) ⊢ wpc (cont (CTX i)) Q) :
    iprop(ctx P M K ∗ Fr ∗ Cmp c i 8 pt)
      ⊢ wpc (.op (.load ctxM (Rect.unit (s := S1024x1024) ![0, 0] S1024x1024.size hb).toLoadRect hl) cont) Q :=
  ld P M K c (Finset.subset_univ _) (rd_all (R := 1024) (C := 1024) (m := ctxM) (hb := hb) (CTX i)) (get_ctx_done c) hc
/-- Head `k` is stored. -/
theorem st_ctx {k : ℕ} {hb hx hm} {w : FVec F S1024x128 .bf16} {cont : PUnit → Prog (TpuEff nD τ sig (Elt F) Λ₀ .tc) α} (hk : k < 8) (hw : w = headI i ⟨k, hk⟩)
    (hc : iprop(ctx P M K ∗ Fr ∗ Cmp c i (k + 1) pt) ⊢ wpc (cont ⟨⟩) Q) :
    iprop(ctx P M K ∗ Fr ∗ Cmp c i k pt)
      ⊢ wpc (.op (.store ctxM (Rect.unit (s := S1024x1024) ![0, 128 * k] S1024x128.size hb) w Finset.univ hx hm) cont) Q := by
  subst hw
  exact st P M K c (Finset.subset_univ _) (put_ctx c hk hb) hc
theorem ld_part {r : Rect S32x32x1024} {hl} {cont : (r.toLoadRect.shape.Idx → Elt F .bf16) → Prog (TpuEff nD τ sig (Elt F) Λ₀ .tc) α}
    (hc : ∀ w, iprop(ctx P M K ∗ Fr ∗ Cmp c i h (partAny c)) ⊢ wpc (cont w) Q) :
    iprop(ctx P M K ∗ Fr ∗ Cmp c i h (partAny c)) ⊢ wpc (.op (.load partM r.toLoadRect hl) cont) Q :=
  ld_any P M K c (Finset.subset_univ _) (get_part c) hc

theorem all_emb3 {n R C : ℕ} (h : ∀ a, (![0, 0, 0] : Fin 3 → ℕ) a + (⟨3, ![n, R, C]⟩ : Shape).size a ≤ (⟨3, ![n, R, C]⟩ : Shape).size a)
    (y : (⟨3, ![n, R, C]⟩ : Shape).Idx) :
    (Rect.unit (s := ⟨3, ![n, R, C]⟩) ![0, 0, 0] (⟨3, ![n, R, C]⟩ : Shape).size h).emb y = y := by
  funext a
  apply Fin.ext
  rw [Rect.emb_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem wr_part {hb} (g w : Vec F S32x32x1024 .bf16) :
    (partM.access (Rect.unit (s := S32x32x1024) ![0, 0, 0] S32x32x1024.size hb)).write (Elt F) g w Finset.univ = w := by
  funext y
  have e : (partM.access (Rect.unit (s := S32x32x1024) ![0, 0, 0] S32x32x1024.size hb)).emb y = y := all_emb3 (n := 32) (R := 32) (C := 1024) hb y
  conv_lhs => rw [← e]
  rw [View.write_emb_of_mem _ _ (Finset.mem_univ _)]; rfl
/-- The partial products are stored. -/
theorem st_part {hb hx hm} {w : Vec F S32x32x1024 .bf16} {cont : PUnit → Prog (TpuEff nD τ sig (Elt F) Λ₀ .tc) α}
    (hc : iprop(ctx P M K ∗ Fr ∗ Cmp c i h (own c partM w)) ⊢ wpc (cont ⟨⟩) Q) :
    iprop(ctx P M K ∗ Fr ∗ Cmp c i h (partAny c))
      ⊢ wpc (.op (.store partM (Rect.unit (s := S32x32x1024) ![0, 0, 0] S32x32x1024.size hb) w Finset.univ hx hm) cont) Q := by
  refine st P M K c (S := Finset.univ) (Finset.subset_univ _) ?_ hc
  unfold Cmp partAny
  iintro ⟨HI, HC, ⟨%g, Hg⟩⟩
  iexists g
  isplitl [Hg]; · iexact Hg
  iintro Hg
  isplitl [HI]; · iexact HI
  isplitl [HC]; · iexact HC
  rw [wr_part]
  iexact Hg
end

/-! ## The block and the slots -/

/-- The device's own block of the partial products is read. -/
theorem ld_own {o : Fin 3 → ℕ} {f : Vec F S32x32x1024 .bf16} (ho : o = ![c.val, 0, 0]) {hb hl} {cont : (S1x32x1024.Idx → Elt F .bf16) → Prog (TpuEff nD τ sig (Elt F) Λ₀ .tc) α}
    (hc : iprop(ctx P M K ∗ Fr ∗ partPts c c f) ⊢ wpc (cont (blockOf f c)) Q) :
    iprop(ctx P M K ∗ Fr ∗ partPts c c f)
      ⊢ wpc (.op (.load partM (Rect.unit (s := S32x32x1024) o S1x32x1024.size hb).toLoadRect hl) cont) Q := by
  subst ho
  refine ld P M K c (m := partM) (r := Rect.unit (s := S32x32x1024) ![c.val, 0, 0] S1x32x1024.size hb) (q := fullShare) (S := (partD c).view.set) ?_ (rd_lead (n := 32) (R := 32) (C := 1024) (m := partM) c.isLt (hb := hb) f) ?_ hc
  · exact (View.set_reshape _ _).ge
  · iintro H
    isplitl [H]; · iexact H
    iintro H; iexact H

theorem get_slot {f : Fin 4} {O : CellTallies nD τ sig Unit} {k s : ℕ} (hs : s < 31) (hsk : s < k) :
    WaitSt P M c f O k ⊢ iprop(pay P M c f ⟨s, hs⟩ ∗ (pay P M c f ⟨s, hs⟩ -∗ WaitSt P M c f O k)) := by
  unfold WaitSt
  rw [dn_at _ hs hsk]
  iintro ⟨HO, HU, ⟨⟨HA, HP⟩, HD⟩⟩
  isplitl [HP]; · iexact HP
  iintro HP
  isplitl [HO]; · iexact HO
  isplitl [HU]; · iexact HU
  isplitr [HD]
  · isplitl [HA] <;> iassumption
  · iexact HD

/-- A slot of the reduce-scatter is read after its arrival. -/
theorem ld_rs {O : CellTallies nD τ sig Unit} {k s : ℕ} {hb hl} {cont : (S1x32x1024.Idx → Elt F .bf16) → Prog (TpuEff nD τ sig (Elt F) Λ₀ .tc) α} (hs : s < 31) (hsk : s < k)
    (hc : iprop(ctx P M K ∗ Fr ∗ WaitSt P M c 1 O k) ⊢ wpc (cont (slotOf (RS P c) s)) Q) :
    iprop(ctx P M K ∗ Fr ∗ WaitSt P M c 1 O k)
      ⊢ wpc (.op (.load rsM (Rect.unit (s := S31x32x1024) ![s, 0, 0] S1x32x1024.size hb).toLoadRect hl) cont) Q := by
  refine ld P M K c (m := rsM) (r := Rect.unit (s := S31x32x1024) ![s, 0, 0] S1x32x1024.size hb) (S := (rsD ⟨s, hs⟩).view.set) ?_ ((rd_lead (n := 31) (R := 32) (C := 1024) (m := rsM) hs (hb := hb) (RS P c)).trans ?_) (get_slot P M c hs hsk) hc
  · exact (View.set_reshape _ _).ge
  · unfold slotOf; rw [ofNat31 hs]; rfl

end Cert.KernelIdeal.Talk

end
-- ==== Proof.Ideal.Outs.lean ====
/-
  The reads of the gathered rows, the writes of the result, and how buffers are cut into blocks and put together again.
-/
module

public import proofs.«01_k».proof.Proof.Ideal.Moves

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16)
variable (K : GSem nD τ sig → ℕ) (c : Dev nD)
variable {α : Type} {Q : α → sProp (MT nD τ sig Unit (Elt F) ℕ UU ℕ)} {Fr : sProp (MT nD τ sig Unit (Elt F) ℕ UU ℕ)}

local notation "wpc" => wp frame (wpE (defs₀ (F := F)) 𝒱₀ (c : Thread nD τ) none) Set.univ

variable (I : Dev nD → Ins F)

/-! ## The result -/

/-- The result with the device's own block and `s` gathered ones written. -/
def outUp (s : ℕ) : sProp (MT nD τ sig Unit (Elt F) ℕ UU ℕ) :=
  iprop(∃ g : Vec F S32x32x1024 .f32, ⌜∀ x : S32x32x1024.Idx, (x 0 = c ∨ ∃ j : Fin 31, j.val < s ∧ x 0 = nxt c j) → g x = OUT I c x⌝ ∗ own c outM g)
def outAny : sProp (MT nD τ sig Unit (Elt F) ℕ UU ℕ) := iprop(∃ g : Vec F S32x32x1024 .f32, own c outM g)
def redAny : sProp (MT nD τ sig Unit (Elt F) ℕ UU ℕ) := iprop(∃ g : Vec F S32x1024 .bf16, own c redM g)

/-- A block of the result written. -/
theorem wr_out {b : Dev nD} (hb : ∀ a, (![b.val, 0, 0] : Fin 3 → ℕ) a + S1x32x1024.size a ≤ S32x32x1024.size a) (g : Vec F S32x32x1024 .f32) (w : Vec F S1x32x1024 .f32)
    (x : S32x32x1024.Idx) :
    (outM.access (Rect.unit (s := S32x32x1024) ![b.val, 0, 0] S1x32x1024.size hb)).write (Elt F) g w Finset.univ x
      = if (x 0).val = b.val then w (ix3 0 (x 1) (x 2)) else g x := by
  by_cases h : (x 0).val = b.val
  · rw [if_pos h]
    have e : (outM.access (Rect.unit (s := S32x32x1024) ![b.val, 0, 0] S1x32x1024.size hb)).emb (ix3 0 (x 1) (x 2)) = x := by
      refine (lead_emb (n := 32) (R := 32) (C := 1024) b.isLt hb _).trans ?_
      funext a
      match a with
      | ⟨0, _⟩ => exact Fin.ext h.symm
      | ⟨1, _⟩ => rfl
      | ⟨2, _⟩ => rfl
    conv_lhs => rw [← e]
    rw [View.write_emb_of_mem _ _ (Finset.mem_univ _)]; rfl
  · rw [if_neg h, View.write_of_not_mem]
    intro hm
    unfold View.setOn at hm; rw [Finset.mem_map] at hm
    obtain ⟨j, -, e⟩ := hm
    have e' : (Rect.unit (s := S32x32x1024) ![b.val, 0, 0] S1x32x1024.size hb).emb j = x := e
    rw [lead_emb (n := 32) (R := 32) (C := 1024) b.isLt hb j] at e'
    exact h (congrArg Fin.val (congrFun e' 0)).symm

theorem ld_out_any {r : Rect S32x32x1024} {hl} {cont : (r.toLoadRect.shape.Idx → Elt F .f32) → Prog (TpuEff nD τ sig (Elt F) Λ₀ .tc) α}
    (hc : ∀ w, iprop(ctx P M K ∗ Fr ∗ outAny c) ⊢ wpc (cont w) Q) :
    iprop(ctx P M K ∗ Fr ∗ outAny c) ⊢ wpc (.op (.load outM r.toLoadRect hl) cont) Q := by
  refine ld_any P M K c (S := Finset.univ) (q := fullShare) (Finset.subset_univ _) ?_ hc
  unfold outAny
  iintro ⟨%g, Hg⟩
  iexists g
  isplitl [Hg]; · iexact Hg
  iintro Hg; iexists g; iexact Hg

/-- The device's own rows are stored. -/
theorem st_own {o : Fin 3 → ℕ} (ho : o = ![c.val, 0, 0]) {hb hx hm} {w : Vec F S1x32x1024 .f32} (hw : w = k0_pay37 (redN I c 31)) {cont : PUnit → Prog (TpuEff nD τ sig (Elt F) Λ₀ .tc) α}
    (hc : iprop(ctx P M K ∗ Fr ∗ outUp c I 0) ⊢ wpc (cont ⟨⟩) Q) :
    iprop(ctx P M K ∗ Fr ∗ outAny c)
      ⊢ wpc (.op (.store outM (Rect.unit (s := S32x32x1024) o S1x32x1024.size hb) w Finset.univ hx hm) cont) Q := by
  subst ho hw
  refine st P M K c (m := outM) (r := Rect.unit (s := S32x32x1024) ![c.val, 0, 0] S1x32x1024.size hb) (S := Finset.univ) (Finset.subset_univ _) ?_ hc
  unfold outAny outUp
  iintro ⟨%g, Hg⟩
  iexists g
  isplitl [Hg]; · iexact Hg
  iintro Hg
  iexists ((outM.access (Rect.unit (s := S32x32x1024) ![c.val, 0, 0] S1x32x1024.size hb)).write (Elt F) g (k0_pay37 (redN I c 31)) Finset.univ)
  isplitr
  · ipureintro
    rintro x (h | ⟨j, hj, -⟩)
    · have h' : (x 0).val = c.val := congrArg Fin.val h
      rw [wr_out hb, if_pos h']
      unfold OUT; rw [if_pos h']
    · exact absurd hj (Nat.not_lt_zero _)
  iexact Hg

/-- Waiting for gathered rows while the result is being written. -/
def GatSt (O : CellTallies nD τ sig Unit) (k s : ℕ) : sProp (MT nD τ sig Unit (Elt F) ℕ UU ℕ) :=
  iprop(WaitSt P (MM I) c 3 O k ∗ outUp c I s)

variable {O : CellTallies nD τ sig Unit}

theorem ld_out {k s : ℕ} {r : Rect S32x32x1024} {hl} {cont : (r.toLoadRect.shape.Idx → Elt F .f32) → Prog (TpuEff nD τ sig (Elt F) Λ₀ .tc) α}
    (hc : ∀ w, iprop(ctx P (MM I) K ∗ Fr ∗ GatSt P c I O k s) ⊢ wpc (cont w) Q) :
    iprop(ctx P (MM I) K ∗ Fr ∗ GatSt P c I O k s) ⊢ wpc (.op (.load outM r.toLoadRect hl) cont) Q := by
  refine ld_any P (MM I) K c (S := Finset.univ) (q := fullShare) (Finset.subset_univ _) ?_ hc
  unfold GatSt outUp
  iintro ⟨HW, ⟨%g, %hg, Hg⟩⟩
  iexists g
  isplitl [Hg]; · iexact Hg
  iintro Hg
  isplitl [HW]; · iexact HW
  iexists g; isplitr; · ipureintro; exact hg
  iexact Hg

/-- A slot of gathered rows is read after its arrival. -/
theorem ld_ag {k s j : ℕ} {hb hl} {cont : (S1x32x1024.Idx → Elt F .bf16) → Prog (TpuEff nD τ sig (Elt F) Λ₀ .tc) α} (hj : j < 31) (hjk : j < k)
    (hc : iprop(ctx P (MM I) K ∗ Fr ∗ GatSt P c I O k s) ⊢ wpc (cont (slotOf (AG (MM I) c) j)) Q) :
    iprop(ctx P (MM I) K ∗ Fr ∗ GatSt P c I O k s)
      ⊢ wpc (.op (.load agM (Rect.unit (s := S31x32x1024) ![j, 0, 0] S1x32x1024.size hb).toLoadRect hl) cont) Q := by
  refine ld P (MM I) K c (m := agM) (r := Rect.unit (s := S31x32x1024) ![j, 0, 0] S1x32x1024.size hb) (S := (agD ⟨j, hj⟩).view.set) (q := fullShare) ?_ ((rd_lead (n := 31) (R := 32) (C := 1024) (m := agM) hj (hb := hb) (AG (MM I) c)).trans ?_) ?_ hc
  · exact (View.set_reshape _ _).ge
  · unfold slotOf; rw [ofNat31 hj]; rfl
  · have hg : WaitSt P (MM I) c 3 O k ⊢ iprop(agPts c ⟨j, hj⟩ (AG (MM I) c) ∗ (agPts c ⟨j, hj⟩ (AG (MM I) c) -∗ WaitSt P (MM I) c 3 O k)) :=
      get_slot P (MM I) c hj hjk
    unfold GatSt
    iintro ⟨HW, Ho⟩
    ihave HW' := hg $$ HW
    icases HW' with ⟨Hp, Hb⟩
    isplitl [Hp]; · iexact Hp
    iintro Hp
    isplitr [Ho]; · iapply Hb; iexact Hp
    iexact Ho

/-- A block of gathered rows is stored. -/
theorem st_out {k s : ℕ} (hs : s < 31) {hb hx hm} {w : Vec F S1x32x1024 .f32} (hw : w = k0_pay38 (slotOf (AG (MM I) c) s)) {cont : PUnit → Prog (TpuEff nD τ sig (Elt F) Λ₀ .tc) α}
    (hc : iprop(ctx P (MM I) K ∗ Fr ∗ GatSt P c I O k (s + 1)) ⊢ wpc (cont ⟨⟩) Q) :
    iprop(ctx P (MM I) K ∗ Fr ∗ GatSt P c I O k s)
      ⊢ wpc (.op (.store outM (Rect.unit (s := S32x32x1024) (k0_off4 c (BitVec.ofNat 32 s)) S1x32x1024.size hb) w Finset.univ hx hm) cont) Q := by
  have eo : k0_off4 c (BitVec.ofNat 32 s) = ![(nxt c ⟨s, hs⟩).val, 0, 0] := k0_off4_eq c ⟨s, hs⟩
  generalize k0_off4 c (BitVec.ofNat 32 s) = o at *
  subst eo hw
  refine st P (MM I) K c (m := outM) (r := Rect.unit (s := S32x32x1024) ![(nxt c ⟨s, hs⟩).val, 0, 0] S1x32x1024.size hb) (S := Finset.univ) (Finset.subset_univ _) ?_ hc
  unfold GatSt outUp
  iintro ⟨HW, ⟨%g, %hg, Hg⟩⟩
  iexists g
  isplitl [Hg]; · iexact Hg
  iintro Hg
  isplitl [HW]; · iexact HW
  iexists ((outM.access (Rect.unit (s := S32x32x1024) ![(nxt c ⟨s, hs⟩).val, 0, 0] S1x32x1024.size hb)).write (Elt F) g (k0_pay38 (slotOf (AG (MM I) c) s)) Finset.univ)
  isplitr
  · ipureintro
    intro x hx'
    rw [wr_out hb]
    by_cases h : (x 0).val = (nxt c ⟨s, hs⟩).val
    · rw [if_pos h]
      have h' : x 0 = nxt c ⟨s, hs⟩ := Fin.ext h
      unfold OUT
      rw [if_neg (fun e => nxt_ne c ⟨s, hs⟩ (Fin.ext (h.symm.trans e)))]
      congr 1
      have e : slotOf (AG (MM I) c) s = fun y => MM I (nxt c ⟨s, hs⟩) (ix2 (y 1) (y 2)) := by
        funext y; unfold slotOf; rw [ofNat31 hs]; rfl
      rw [e]
      congr 1
      funext y
      exact congrArg (fun d => MM I d (ix2 (y 1) (y 2))) h'.symm
    · rw [if_neg h]
      refine hg x (hx'.imp id ?_)
      rintro ⟨j, hj, e⟩
      refine ⟨j, lt_of_le_of_ne (Nat.lt_succ_iff.1 hj) fun e' => h ?_, e⟩
      have : j = ⟨s, hs⟩ := Fin.ext e'
      rw [e, this]
  iexact Hg

/-- All blocks written: the result is what `OUT` says. -/
theorem out_done : outUp c I 31 ⊢ (own c outM (OUT I c) : sProp (MT nD τ sig Unit (Elt F) ℕ UU ℕ)) := by
  unfold outUp
  iintro ⟨%g, %hg, Hg⟩
  have e : g = OUT I c := funext fun x => hg x (by
    by_cases h : x 0 = c
    · exact .inl h
    · obtain ⟨j, hj⟩ := exists_nxt c (x 0) h
      exact .inr ⟨j, j.isLt, hj.symm⟩)
  subst e
  iexact Hg

theorem gat_in {k s : ℕ} : iprop(ctx P (MM I) K ∗ Fr ∗ GatSt P c I O k s) ⊢ iprop(ctx P (MM I) K ∗ (Fr ∗ outUp c I s) ∗ WaitSt P (MM I) c 3 O k) := by
  unfold GatSt
  iintro ⟨HC, HF, HW, Ho⟩
  isplitl [HC]; · iexact HC
  isplitl [HF Ho]
  · isplitl [HF] <;> iassumption
  iexact HW
theorem gat_out {k s : ℕ} : iprop(ctx P (MM I) K ∗ (Fr ∗ outUp c I s) ∗ WaitSt P (MM I) c 3 O k) ⊢ iprop(ctx P (MM I) K ∗ Fr ∗ GatSt P c I O k s) := by
  unfold GatSt
  iintro ⟨HC, ⟨HF, Ho⟩, HW⟩
  isplitl [HC]; · iexact HC
  isplitl [HF]; · iexact HF
  isplitl [HW] <;> iassumption

/-- The wait for the gathered rows of round `k`. -/
theorem gat_wait {k j : ℕ} {s : DmaSem sig}
    {sp sp' : Space} {sh sh' : Shape} {e e' : EltTy} {src : Memref sig .tc sp' sh' e'} {dst : Memref sig .tc sp sh e} {hsrc hdst}
    {cont : PUnit → Prog (TpuEff nD τ sig (Elt F) Λ₀ .tc) α} (hk : k < 31) (hs : s = dsem 3 ⟨k, hk⟩) (hN : dst.view.dmaCredit = N)
    (hO : Above (lv (cell c 3 ⟨k, hk⟩) ()) O)
    (h : iprop(ctx P (MM I) K ∗ Fr ∗ GatSt P c I O (k + 1) j) ⊢ wpc (cont ⟨⟩) Q) :
    iprop(ctx P (MM I) K ∗ Fr ∗ GatSt P c I O k j) ⊢ wpc (.op (.waitDma2 s src dst hsrc hdst) cont) Q :=
  (gat_in P K c I).trans (wait_step P (MM I) K c 3 hk hs hN hO ((gat_out P K c I).trans h))

end Cert.KernelIdeal.Talk

end
-- ==== Proof.Ideal.Phases.lean ====
/-
  From one phase of the kernel to the next.
-/
module

public import proofs.«01_k».proof.Proof.Ideal.Outs
public import Idealize.ShloMosaic.Lib.Ring

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16)
variable (K : GSem nD τ sig → ℕ) (c : Dev nD)
variable {α : Type} {Q : α → sProp (MT nD τ sig Unit (Elt F) ℕ UU ℕ)} {Fr : sProp (MT nD τ sig Unit (Elt F) ℕ UU ℕ)}

local notation "wpc" => wp frame (wpE (defs₀ (F := F)) 𝒱₀ (c : Thread nD τ) none) Set.univ

variable (I : Dev nD → Ins F)

/-! ## Buffers and their blocks -/

theorem part_split (f : Vec F S32x32x1024 .bf16) :
    (own c partM f : sProp 𝕄) = iprop(partPts c c f ∗ bigSep Finset.univ fun i => partPts c (nxt c i) f) := by
  have h := Ring.pointsTo_blocks (ℓ := partM.view.loc (c : Thread nD τ)) (Val := Elt F) (Ix := Unit) (Name := ℕ) (U := UU) (Lvl := ℕ) (B := Dev nD) (I := fun d => (partD d).view.set)
    (fun b b' hb => Finset.disjoint_left.2 fun x hx hx' => hb (((partD_mem b x).1 hx).symm.trans ((partD_mem b' x).1 hx')))
    (Finset.eq_univ_of_forall fun x => Finset.mem_biUnion.2 ⟨x 0, Finset.mem_univ _, (partD_mem _ x).2 rfl⟩) (q := fullShare) f
  have e : (Finset.univ : Finset (Dev nD)).erase c = Finset.univ.map ⟨nxt c, fun _ _ => nxt_inj c⟩ := by
    ext d
    simp only [Finset.mem_erase, Finset.mem_univ, and_true, Finset.mem_map, true_and, Function.Embedding.coeFn_mk]
    exact ⟨fun h => exists_nxt c d h, fun ⟨i, h⟩ => h ▸ nxt_ne c i⟩
  refine h.trans ((BI.bigSep_erase (Finset.mem_univ c)).trans ?_)
  rw [e, BI.bigSep_map]
  rfl
theorem rs_blocks (f : Vec F S31x32x1024 .bf16) : (own c rsM f : sProp 𝕄) = bigSep Finset.univ fun i => rsPts c i f :=
  Ring.pointsTo_blocks (ℓ := rsM.view.loc (c : Thread nD τ)) (Val := Elt F) (Ix := Unit) (Name := ℕ) (U := UU) (Lvl := ℕ) (B := Fin 31) (I := fun d => (rsD d).view.set)
    (fun b b' hb => Finset.disjoint_left.2 fun x hx hx' => hb (((rsD_mem b x).1 hx).symm.trans ((rsD_mem b' x).1 hx')))
    (Finset.eq_univ_of_forall fun x => Finset.mem_biUnion.2 ⟨x 0, Finset.mem_univ _, (rsD_mem _ x).2 rfl⟩) (q := fullShare) f
theorem ag_blocks (f : Vec F S31x32x1024 .bf16) : (own c agM f : sProp 𝕄) = bigSep Finset.univ fun i => agPts c i f :=
  Ring.pointsTo_blocks (ℓ := agM.view.loc (c : Thread nD τ)) (Val := Elt F) (Ix := Unit) (Name := ℕ) (U := UU) (Lvl := ℕ) (B := Fin 31) (I := fun d => (agD d).view.set)
    (fun b b' hb => Finset.disjoint_left.2 fun x hx hx' => hb (((agD_mem b x).1 hx).symm.trans ((agD_mem b' x).1 hx')))
    (Finset.eq_univ_of_forall fun x => Finset.mem_biUnion.2 ⟨x 0, Finset.mem_univ _, (agD_mem _ x).2 rfl⟩) (q := fullShare) f
theorem red_shares (f : Vec F S32x1024 .bf16) : (own c redM f : sProp 𝕄) = bigSep Finset.univ fun i => redPts c (shr i) f := by
  have h := Transfers.pointsTo_deal (ℓ := redM.view.loc (c : Thread nD τ)) (Val := Elt F) (Ix := Unit) (Name := ℕ) (U := UU) (Lvl := ℕ) (S := redM.view.set) (f := f)
    (Finset.univ : Finset (Fin 31)) Finset.univ_nonempty fullShare
  refine Eq.trans ?_ h
  rw [show redM.view.set = Finset.univ from View.set_whole _]

/-! ## The groups of things a device carries -/

def posAll (n : ℕ) (f : Fin 4) : sProp 𝕄 := bigSep Finset.univ fun i => atPos ER (cell c f i) n ∅ 0
def crd (f : Fin 4) : sProp 𝕄 := bigSep Finset.univ fun i => cred (tallyAt (cell c f i) () N)
def rsItems : sProp (MT nD τ sig Unit (Elt F) ℕ UU ℕ) := bigSep Finset.univ (rsItem c)
def agItems : sProp (MT nD τ sig Unit (Elt F) ℕ UU ℕ) := bigSep Finset.univ (agItem c)
def rsDsts : sProp (MT nD τ sig Unit (Elt F) ℕ UU ℕ) := bigSep Finset.univ (rsDst c)
def agDsts : sProp (MT nD τ sig Unit (Elt F) ℕ UU ℕ) := bigSep Finset.univ (agDst c)
def paid (f : Fin 4) : sProp (MT nD τ sig Unit (Elt F) ℕ UU ℕ) := bigSep Finset.univ fun i => pay P M c f i
def barAt (n : ℕ) : sProp (MT nD τ sig Unit (Elt F) ℕ UU ℕ) := atPos ER (barCell c) n ∅ 0
def barCred : sProp (MT nD τ sig Unit (Elt F) ℕ UU ℕ) := cred (tallyAt (barCell c) () 31)

theorem sep_emp_eq (A : sProp 𝕄) : iprop(A ∗ emp) = A := equiv_iff.mp sep_emp
theorem emp_sep_eq (A : sProp 𝕄) : iprop(emp ∗ A) = A := equiv_iff.mp emp_sep

theorem sigSt_last : SigSt (F := F) c 31 = due c (oweC c 3 Finset.univ + oweC c 1 Finset.univ) := by
  unfold SigSt
  rw [oweB_last, up_last, BI.bigSep_empty, add_zero]
  exact sep_emp_eq _
theorem rsSt_zero : RsSt P c 0 = iprop(due c (oweC c 3 Finset.univ + oweC c 1 Finset.univ) ∗ rsItems c ∗ rsDsts c ∗ bigSep Finset.univ fun i => partPts c (nxt c i) (P c)) := by
  unfold RsSt rsItems rsDsts
  rw [up_zero, dn_zero, BI.bigSep_empty, bigSep_sep', bigSep_sep']
  exact congrArg (fun X => iprop(_ ∗ X)) (sep_emp_eq _)
theorem rsSt_last : RsSt P c 31 = iprop(due c (oweC c 3 Finset.univ) ∗ crd c 0) := by
  unfold RsSt crd
  rw [oweC_last, up_last, dn_last, BI.bigSep_empty, add_zero]
  exact congrArg (fun X => iprop(_ ∗ X)) (emp_sep_eq _)
theorem agSt_zero : AgSt M c 0 = iprop(due c (oweC c 3 Finset.univ) ∗ agItems c ∗ agDsts c ∗ bigSep Finset.univ fun i => redPts c (shr i) (M c)) := by
  unfold AgSt agItems agDsts
  rw [up_zero, dn_zero, BI.bigSep_empty, bigSep_sep', bigSep_sep']
  exact congrArg (fun X => iprop(_ ∗ X)) (sep_emp_eq _)
theorem agSt_last : AgSt M c 31 = iprop(due c (0 : CellTallies nD τ sig Unit) ∗ crd c 2) := by
  unfold AgSt crd
  rw [oweC_last, up_last, dn_last, BI.bigSep_empty]
  exact congrArg (fun X => iprop(_ ∗ X)) (emp_sep_eq _)
theorem waitSt_zero (f : Fin 4) (O : CellTallies nD τ sig Unit) : WaitSt P M c f O 0 = iprop(due c O ∗ crd c f ∗ posAll c 0 f) := by
  unfold WaitSt crd posAll
  rw [up_zero, dn_zero, BI.bigSep_empty, bigSep_sep']
  exact congrArg (fun X => iprop(_ ∗ X)) (sep_emp_eq _)
theorem waitSt_last (f : Fin 4) (O : CellTallies nD τ sig Unit) : WaitSt P M c f O 31 = iprop(due c O ∗ posAll c 1 f ∗ paid P M c f) := by
  unfold WaitSt posAll paid
  rw [up_last, dn_last, BI.bigSep_empty, bigSep_sep']
  exact congrArg (fun X => iprop(_ ∗ X)) (emp_sep_eq _)

/-! ## The transitions -/

instance sepComm : _root_.Std.Commutative (α := sProp (MT nD τ sig Unit (Elt F) ℕ UU ℕ)) BIBase.sep := ⟨fun A B => _root_.Std.Commutative.comm (op := fun A B : sProp (MT nD τ sig Unit (Elt F) ℕ UU ℕ) => BI.sep A B) A B⟩
instance sepAssoc : _root_.Std.Associative (α := sProp (MT nD τ sig Unit (Elt F) ℕ UU ℕ)) BIBase.sep := ⟨fun A B C => _root_.Std.Associative.assoc (op := fun A B : sProp (MT nD τ sig Unit (Elt F) ℕ UU ℕ) => BI.sep A B) A B C⟩

/-- The context buffer at some contents. -/
def ctxAny : sProp (MT nD τ sig Unit (Elt F) ℕ UU ℕ) := iprop(∃ g : Vec F S1024x1024 .bf16, own c ctxM g)
/-- The positions before the waits of the four families. -/
def pos0 : sProp (MT nD τ sig Unit (Elt F) ℕ UU ℕ) := iprop(posAll c 0 0 ∗ posAll c 0 1 ∗ posAll c 0 2 ∗ posAll c 0 3)
/-- What is set aside while a device signals. -/
def Fr0 : sProp (MT nD τ sig Unit (Elt F) ℕ UU ℕ) :=
  iprop(rsItems c ∗ agItems c ∗ pos0 c ∗ crd c 1 ∗ crd c 3 ∗ Cmp c (I c) 0 (partAny c) ∗ redAny c ∗ outAny c)
def Fr2 : sProp (MT nD τ sig Unit (Elt F) ℕ UU ℕ) :=
  iprop(rsItems c ∗ agItems c ∗ pos0 c ∗ crd c 1 ∗ crd c 3 ∗ redAny c ∗ outAny c ∗ due c (oweC c 3 Finset.univ + oweC c 1 Finset.univ) ∗ barAt c 1 ∗ rsDsts c ∗ agDsts c)
def Fr3 : sProp (MT nD τ sig Unit (Elt F) ℕ UU ℕ) :=
  iprop(agItems c ∗ pos0 c ∗ crd c 1 ∗ crd c 3 ∗ redAny c ∗ outAny c ∗ barAt c 1 ∗ agDsts c ∗ insPts c (I c) ∗ ctxUp c (I c) 8 ∗ partPts c c (PP I c))
def Fr4 : sProp (MT nD τ sig Unit (Elt F) ℕ UU ℕ) :=
  iprop(agItems c ∗ pos0 c ∗ crd c 1 ∗ crd c 3 ∗ redAny c ∗ outAny c ∗ barAt c 1 ∗ agDsts c ∗ insPts c (I c) ∗ ctxUp c (I c) 8 ∗ due c (oweC c 3 Finset.univ) ∗ crd c 0)
def Fr5 : sProp (MT nD τ sig Unit (Elt F) ℕ UU ℕ) :=
  iprop(agItems c ∗ posAll c 0 0 ∗ posAll c 0 2 ∗ posAll c 0 3 ∗ crd c 3 ∗ redAny c ∗ outAny c ∗ barAt c 1 ∗ agDsts c ∗ insPts c (I c) ∗ ctxUp c (I c) 8 ∗ crd c 0 ∗ partPts c c (PP I c))
def Fr6 : sProp (MT nD τ sig Unit (Elt F) ℕ UU ℕ) :=
  iprop(agItems c ∗ posAll c 0 0 ∗ posAll c 0 2 ∗ posAll c 0 3 ∗ crd c 3 ∗ outAny c ∗ barAt c 1 ∗ agDsts c ∗ insPts c (I c) ∗ ctxUp c (I c) 8 ∗ crd c 0 ∗ partPts c c (PP I c)
    ∗ due c (oweC c 3 Finset.univ) ∗ posAll c 1 1 ∗ paid (PP I) (MM I) c 1)
def Fr7 : sProp (MT nD τ sig Unit (Elt F) ℕ UU ℕ) :=
  iprop(posAll c 0 0 ∗ posAll c 0 2 ∗ posAll c 0 3 ∗ crd c 3 ∗ outAny c ∗ barAt c 1 ∗ insPts c (I c) ∗ ctxUp c (I c) 8 ∗ crd c 0 ∗ partPts c c (PP I c)
    ∗ posAll c 1 1 ∗ paid (PP I) (MM I) c 1)
def Fr8 : sProp (MT nD τ sig Unit (Elt F) ℕ UU ℕ) :=
  iprop(posAll c 0 2 ∗ posAll c 0 3 ∗ crd c 3 ∗ outAny c ∗ barAt c 1 ∗ insPts c (I c) ∗ ctxUp c (I c) 8 ∗ crd c 2 ∗ partPts c c (PP I c)
    ∗ posAll c 1 1 ∗ paid (PP I) (MM I) c 1)
def Fr9 : sProp (MT nD τ sig Unit (Elt F) ℕ UU ℕ) :=
  iprop(posAll c 0 2 ∗ posAll c 0 3 ∗ crd c 3 ∗ barAt c 1 ∗ insPts c (I c) ∗ ctxUp c (I c) 8 ∗ crd c 2 ∗ partPts c c (PP I c)
    ∗ posAll c 1 1 ∗ paid (PP I) (MM I) c 1 ∗ posAll c 1 0 ∗ paid (PP I) (MM I) c 0 ∗ due c (0 : CellTallies nD τ sig Unit))
def Fr10 : sProp (MT nD τ sig Unit (Elt F) ℕ UU ℕ) :=
  iprop(posAll c 0 2 ∗ barAt c 1 ∗ insPts c (I c) ∗ ctxUp c (I c) 8 ∗ crd c 2 ∗ partPts c c (PP I c)
    ∗ posAll c 1 1 ∗ paid (PP I) (MM I) c 1 ∗ posAll c 1 0 ∗ paid (PP I) (MM I) c 0)
def Fr11 : sProp (MT nD τ sig Unit (Elt F) ℕ UU ℕ) :=
  iprop(barAt c 1 ∗ insPts c (I c) ∗ ctxUp c (I c) 8 ∗ partPts c c (PP I c)
    ∗ posAll c 1 1 ∗ paid (PP I) (MM I) c 1 ∗ posAll c 1 0 ∗ paid (PP I) (MM I) c 0 ∗ posAll c 1 3 ∗ paid (PP I) (MM I) c 3 ∗ outUp c I 31)
/-- What a device has at the end of the kernel. -/
def Post : sProp (MT nD τ sig Unit (Elt F) ℕ UU ℕ) :=
  iprop(due c (0 : CellTallies nD τ sig Unit) ∗ barAt c 1 ∗ (posAll c 1 0 ∗ posAll c 1 1 ∗ posAll c 1 2 ∗ posAll c 1 3) ∗ insPts c (I c) ∗ own c outM (OUT I c)
    ∗ partAny c ∗ ctxAny c ∗ redAny c ∗ (∃ g : Vec F S31x32x1024 .bf16, own c rsM g) ∗ (∃ g : Vec F S31x32x1024 .bf16, own c agM g))

theorem to1 : iprop(ctx P M K ∗ (Fr0 c I ∗ barAt c 0 ∗ barCred c) ∗ SigSt c 31)
    ⊢ iprop(ctx P M K ∗ Fr0 c I ∗ due c (oweC c 3 Finset.univ + oweC c 1 Finset.univ) ∗ barAt c 0 ∗ barCred c) := by
  rw [sigSt_last]; exact Entails.of_eq (by ac_rfl)
theorem to2 : iprop(ctx P M K ∗ Fr0 c I ∗ due c (oweC c 3 Finset.univ + oweC c 1 Finset.univ) ∗ barAt c 1 ∗ bigSep Finset.univ fun i => iprop(rsDst c i ∗ agDst c i))
    ⊢ iprop(ctx P M K ∗ Fr2 c ∗ Cmp c (I c) 0 (partAny c)) := by
  rw [bigSep_sep']; unfold Fr0 Fr2 rsDsts agDsts; exact Entails.of_eq (by ac_rfl)
theorem to3 : iprop(ctx P M K ∗ Fr2 c ∗ Cmp c (I c) 8 (own c partM (PP I c))) ⊢ iprop(ctx P M K ∗ Fr3 c I ∗ RsSt (PP I) c 0) := by
  rw [rsSt_zero]; unfold Fr2 Fr3 Cmp; rw [part_split]; exact Entails.of_eq (by ac_rfl)
theorem to4 : iprop(ctx P M K ∗ Fr3 c I ∗ RsSt (PP I) c 31) ⊢ iprop(ctx P M K ∗ Fr4 c I ∗ partPts c c (PP I c)) := by
  rw [rsSt_last]; unfold Fr3 Fr4; exact Entails.of_eq (by ac_rfl)
theorem to5 : iprop(ctx P M K ∗ Fr4 c I ∗ partPts c c (PP I c)) ⊢ iprop(ctx P M K ∗ Fr5 c I ∗ WaitSt (PP I) (MM I) c 1 (oweC c 3 Finset.univ) 0) := by
  rw [waitSt_zero]; unfold Fr4 Fr5 pos0; exact Entails.of_eq (by ac_rfl)
theorem to6 : iprop(ctx P M K ∗ Fr5 c I ∗ WaitSt (PP I) (MM I) c 1 (oweC c 3 Finset.univ) 31) ⊢ iprop(ctx P M K ∗ Fr6 c I ∗ redAny c) := by
  rw [waitSt_last]; unfold Fr5 Fr6; exact Entails.of_eq (by ac_rfl)
theorem to7 : iprop(ctx P M K ∗ Fr6 c I ∗ own c redM (MM I c)) ⊢ iprop(ctx P M K ∗ Fr7 c I ∗ AgSt (MM I) c 0) := by
  rw [agSt_zero, red_shares]; unfold Fr6 Fr7; exact Entails.of_eq (by ac_rfl)
theorem to8 : iprop(ctx P M K ∗ Fr7 c I ∗ AgSt (MM I) c 31) ⊢ iprop(ctx P M K ∗ Fr8 c I ∗ WaitSt (PP I) (MM I) c 0 0 0) := by
  rw [agSt_last, waitSt_zero]; unfold Fr7 Fr8; exact Entails.of_eq (by ac_rfl)
theorem to9 : iprop(ctx P M K ∗ Fr8 c I ∗ WaitSt (PP I) (MM I) c 0 0 31) ⊢ iprop(ctx P M K ∗ Fr9 c I ∗ outAny c) := by
  rw [waitSt_last]; unfold Fr8 Fr9; exact Entails.of_eq (by ac_rfl)
theorem to10 : iprop(ctx P M K ∗ Fr9 c I ∗ outUp c I 0) ⊢ iprop(ctx P M K ∗ Fr10 c I ∗ GatSt (PP I) c I 0 0 0) := by
  unfold GatSt; rw [waitSt_zero]; unfold Fr9 Fr10; exact Entails.of_eq (by ac_rfl)
theorem to11 : iprop(ctx P M K ∗ Fr10 c I ∗ GatSt (PP I) c I 0 31 31) ⊢ iprop(ctx P M K ∗ Fr11 c I ∗ WaitSt (PP I) (MM I) c 2 0 0) := by
  unfold GatSt; rw [waitSt_last, waitSt_zero]; unfold Fr10 Fr11; exact Entails.of_eq (by ac_rfl)

theorem paid_rs_send : iprop(paid (PP I) (MM I) c 0 ∗ partPts c c (PP I c)) ⊢ partAny c := by
  have h : (iprop(paid (PP I) (MM I) c 0 ∗ partPts c c (PP I c)) : sProp 𝕄) = own c partM (PP I c) := by
    rw [part_split]
    exact sepComm.comm _ _
  rw [h]; unfold partAny
  iintro H; iexists _; iexact H
theorem paid_rs : paid (PP I) (MM I) c 1 ⊢ iprop(∃ g : Vec F S31x32x1024 .bf16, own c rsM g) := by
  have h : (paid (PP I) (MM I) c 1 : sProp 𝕄) = own c rsM (RS (PP I) c) := (rs_blocks c _).symm
  rw [h]
  iintro H; iexists _; iexact H
theorem paid_ag_send : paid (PP I) (MM I) c 2 ⊢ redAny c := by
  have h : (paid (PP I) (MM I) c 2 : sProp 𝕄) = own c redM (MM I c) := (red_shares c _).symm
  rw [h]; unfold redAny
  iintro H; iexists _; iexact H
theorem paid_ag : paid (PP I) (MM I) c 3 ⊢ iprop(∃ g : Vec F S31x32x1024 .bf16, own c agM g) := by
  have h : (paid (PP I) (MM I) c 3 : sProp 𝕄) = own c agM (AG (MM I) c) := (ag_blocks c _).symm
  rw [h]
  iintro H; iexists _; iexact H
theorem ctx_any (i : Ins F) (h : ℕ) : ctxUp c i h ⊢ ctxAny c := by
  unfold ctxUp ctxAny
  iintro ⟨%g, -, H⟩; iexists g; iexact H

theorem to12 : iprop(ctx P M K ∗ Fr11 c I ∗ WaitSt (PP I) (MM I) c 2 0 31) ⊢ Post c I := by
  rw [waitSt_last]; unfold Fr11 Post
  iintro ⟨-, ⟨Hb, Hi, Hx, Hp, H1, P1, H0, P0, H3, P3, Ho⟩, HO, H2, P2⟩
  isplitl [HO]; · iexact HO
  isplitl [Hb]; · iexact Hb
  isplitl [H0 H1 H2 H3]
  · isplitl [H0]; · iexact H0
    isplitl [H1]; · iexact H1
    isplitl [H2] <;> iassumption
  isplitl [Hi]; · iexact Hi
  isplitl [Ho]; · iapply (out_done c I); iexact Ho
  isplitl [P0 Hp]
  · iapply (paid_rs_send c I)
    isplitl [P0] <;> iassumption
  isplitl [Hx]; · iapply (ctx_any c (I c) 8); iexact Hx
  isplitl [P2]; · iapply (paid_ag_send c I); iexact P2
  isplitl [P1]; · iapply (paid_rs c I); iexact P1
  iapply (paid_ag c I); iexact P3

/-- The reduced rows are read before they are stored: the value is not used. -/
theorem ld_red {r : Rect S32x1024} {hl} {cont : (r.toLoadRect.shape.Idx → Elt F .bf16) → Prog (TpuEff nD τ sig (Elt F) Λ₀ .tc) α}
    (hc : ∀ w, iprop(ctx P M K ∗ Fr ∗ redAny c) ⊢ wpc (cont w) Q) :
    iprop(ctx P M K ∗ Fr ∗ redAny c) ⊢ wpc (.op (.load redM r.toLoadRect hl) cont) Q := by
  refine ld_any P M K c (S := Finset.univ) (q := fullShare) (Finset.subset_univ _) ?_ hc
  unfold redAny
  iintro ⟨%g, Hg⟩
  iexists g
  isplitl [Hg]; · iexact Hg
  iintro Hg; iexists g; iexact Hg
theorem wr_red {hb} (g w : Vec F S32x1024 .bf16) :
    (redM.access (Rect.unit (s := S32x1024) ![0, 0] S32x1024.size hb)).write (Elt F) g w Finset.univ = w := by
  funext y
  have e : (redM.access (Rect.unit (s := S32x1024) ![0, 0] S32x1024.size hb)).emb y = y := all_emb (R := 32) (C := 1024) hb y
  conv_lhs => rw [← e]
  rw [View.write_emb_of_mem _ _ (Finset.mem_univ _)]; rfl
/-- The reduced rows are stored. -/
theorem st_red {hb hx hm} {w : Vec F S32x1024 .bf16} (hw : w = MM I c) {cont : PUnit → Prog (TpuEff nD τ sig (Elt F) Λ₀ .tc) α}
    (hc : iprop(ctx P M K ∗ Fr ∗ own c redM (MM I c)) ⊢ wpc (cont ⟨⟩) Q) :
    iprop(ctx P M K ∗ Fr ∗ redAny c)
      ⊢ wpc (.op (.store redM (Rect.unit (s := S32x1024) ![0, 0] S32x1024.size hb) w Finset.univ hx hm) cont) Q := by
  subst hw
  refine st P M K c (m := redM) (r := Rect.unit (s := S32x1024) ![0, 0] S32x1024.size hb) (S := Finset.univ) (Finset.subset_univ _) ?_ hc
  unfold redAny
  iintro ⟨%g, Hg⟩
  iexists g
  isplitl [Hg]; · iexact Hg
  iintro Hg
  rw [wr_red]
  iexact Hg

end Cert.KernelIdeal.Talk

end
-- ==== Proof.Ideal.Opening.lean ====
/-
  A device's DMA semaphores opened when the kernel starts and closed when it
  ends, and the state from which the kernel's first signal is made.
-/
module

public import proofs.«01_k».proof.Proof.Ideal.Phases

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16) (K : GSem nD τ sig → ℕ) (c : Dev nD)

/-- The kernel's own semaphores, by family and round. -/
abbrev osem : Fin 4 × Fin 31 → SemLoc sig := fun k => .dma (dsem k.1 k.2)

/-- Four things, one by one. -/
theorem four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ

/-- The positions of the four families at round `n`. -/
theorem pos_all (n : ℕ) : (bigSep Finset.univ fun k : Fin 4 × Fin 31 => (atPos ER (cell c k.1 k.2) n ∅ 0 : sProp (MT nD τ sig Unit (Elt F) ℕ UU ℕ)))
    = iprop(posAll c n 0 ∗ posAll c n 1 ∗ posAll c n 2 ∗ posAll c n 3) := by
  rw [BI.bigSep_univ_prod, four]; rfl

theorem inv_mine (k : Fin 4 × Fin 31) : invs P M K ⊢ cellInv ER (talkRd P M) (K (cell c k.1 k.2)) (cell c k.1 k.2) := by
  have h : (bigSep Finset.univ fun x : Dev nD × Fin 4 × Fin 31 =>
        cellInv ER (talkRd P M) (K (cell x.1 x.2.1 x.2.2)) (cell x.1 x.2.1 x.2.2) : sProp (MT nD τ sig Unit (Elt F) ℕ UU ℕ))
      ⊢ cellInv ER (talkRd P M) (K (cell c k.1 k.2)) (cell c k.1 k.2) := bigSep_elim (Finset.mem_univ (c, k.1, k.2))
  unfold invs
  iintro ⟨-, H⟩
  iapply h; iexact H
theorem inv_mine_bar : invs P M K ⊢ cellInv ER (talkRd P M) (K (barCell c)) (barCell c) := by
  have h : (bigSep Finset.univ fun c : Dev nD => cellInv ER (talkRd P M) (K (barCell c)) (barCell c) : sProp (MT nD τ sig Unit (Elt F) ℕ UU ℕ))
      ⊢ cellInv ER (talkRd P M) (K (barCell c)) (barCell c) := bigSep_elim (Finset.mem_univ c)
  unfold invs
  iintro ⟨H, -⟩
  iapply h; iexact H

theorem open_one (k : Fin 4 × Fin 31) :
    iprop(invs P M K ∗ (openTok ER (cell c k.1 k.2) ∗ semVal (cell c k.1 k.2) 0))
      ⊢ (|={Set.univ}=> (atPos ER (cell c k.1 k.2) 0 ∅ 0 ∗ reached ER (cell c k.1 k.2) 0) : sProp (MT nD τ sig Unit (Elt F) ℕ UU ℕ)) := by
  refine BIBase.Entails.trans ?_ (Rounds.cell_open ER (talkRd P M) (g := cell c k.1 k.2) (Set.mem_univ (K (cell c k.1 k.2))))
  iintro ⟨#HI, Ho, Hs⟩
  isplitr; · iapply (inv_mine P M K c k); iexact HI
  isplitl [Ho] <;> iassumption
theorem close_one (k : Fin 4 × Fin 31) :
    iprop(invs P M K ∗ atPos ER (cell c k.1 k.2) 1 ∅ 0) ⊢ (|={Set.univ}=> semVal (cell c k.1 k.2) 0 : sProp (MT nD τ sig Unit (Elt F) ℕ UU ℕ)) := by
  refine BIBase.Entails.trans ?_ (Rounds.cell_close ER (talkRd P M) (Set.mem_univ (K (cell c k.1 k.2))) id (duties_later P M (cell c k.1 k.2)))
  iintro ⟨#HI, Ho⟩
  isplitr; · iapply (inv_mine P M K c k); iexact HI
  iexact Ho

/-- All of a device's DMA semaphores opened. -/
theorem open_all :
    iprop(invs P M K ∗ (bigSep Finset.univ fun k : Fin 4 × Fin 31 => openTok ER (cell c k.1 k.2)) ∗ Pipeline.ownSems0 osem c)
      ⊢ (|={Set.univ}=> (pos0 c ∗ bigSep Finset.univ fun k : Fin 4 × Fin 31 => reached ER (cell c k.1 k.2) 0) : sProp (MT nD τ sig Unit (Elt F) ℕ UU ℕ)) := by
  have h1 := bigSep_with_persistent (S := Finset.univ) (R := invs P M K) fun (k : Fin 4 × Fin 31) _ => open_one P M K c k
  have h2 := h1.trans (BI.bigSep_fupd _ _)
  rw [bigSep_sep', bigSep_sep'] at h2
  rw [pos_all] at h2
  exact h2

/-- All of a device's semaphores closed. -/
theorem close_all :
    iprop(invs P M K ∗ barAt c 1 ∗ (posAll c 1 0 ∗ posAll c 1 1 ∗ posAll c 1 2 ∗ posAll c 1 3))
      ⊢ (|={Set.univ}=> (semVal (barCell c) 0 ∗ Pipeline.ownSems0 osem c) : sProp (MT nD τ sig Unit (Elt F) ℕ UU ℕ)) := by
  have h1 := bigSep_with_persistent (S := Finset.univ) (R := invs P M K) fun (k : Fin 4 × Fin 31) _ => close_one P M K c k
  have h2 := h1.trans (BI.bigSep_fupd _ _)
  rw [pos_all] at h2
  unfold barAt
  iintro ⟨#HI, Hb, Hp⟩
  imod (Rounds.cell_close ER (talkRd P M) (Set.mem_univ (K (barCell c))) id (duties_later P M (barCell c))) $$ [Hb] with Hb
  · isplitr; · iapply (inv_mine_bar P M K c); iexact HI
    iexact Hb
  imod h2 $$ [Hp] with Hs
  · isplitr; · iexact HI
    iexact Hp
  imodintro
  isplitl [Hb]; · iexact Hb
  unfold Pipeline.ownSems0
  iexact Hs

/-! ## What a device starts from -/

/-- The duties of one round's signal and copies. -/
def tokItem (i : Fin 31) : sProp (MT nD τ sig Unit (Elt F) ℕ UU ℕ) :=
  iprop(dutyTok ER (barCell (nxt c i)) 0 (rev i) ∗ dutyTok ER (cell c 0 i) 0 0 ∗ dutyTok ER (cell (nxt c i) 1 (rev i)) 0 0
    ∗ dutyTok ER (cell c 2 i) 0 0 ∗ dutyTok ER (cell (nxt c i) 3 (rev i)) 0 0)
/-- That every device's barrier is at its first round. -/
def barReached : sProp (MT nD τ sig Unit (Elt F) ℕ UU ℕ) := bigSep Finset.univ fun d : Dev nD => reached ER (barCell d) 0
/-- That every DMA semaphore of the device is at its first round. -/
def ownReached : sProp (MT nD τ sig Unit (Elt F) ℕ UU ℕ) := bigSep Finset.univ fun k : Fin 4 × Fin 31 => reached ER (cell c k.1 k.2) 0

instance barReached_persistent : BI.Persistent (barReached (F := F)) := by unfold barReached; infer_instance
instance ownReached_persistent : BI.Persistent (ownReached (F := F) c) := by unfold ownReached; infer_instance

theorem bar_reached (d : Dev nD) : barReached ⊢ (reached ER (barCell d) 0 : sProp (MT nD τ sig Unit (Elt F) ℕ UU ℕ)) := bigSep_elim (Finset.mem_univ d)
theorem own_reached (f : Fin 4) (i : Fin 31) : ownReached c ⊢ (reached ER (cell c f i) 0 : sProp (MT nD τ sig Unit (Elt F) ℕ UU ℕ)) :=
  bigSep_elim (Φ := fun k : Fin 4 × Fin 31 => (reached ER (cell c k.1 k.2) 0 : sProp (MT nD τ sig Unit (Elt F) ℕ UU ℕ))) (Finset.mem_univ (f, i))

/-- One round's duties and slots make what its signal and copies need. -/
theorem start_one (i : Fin 31) :
    iprop((barReached ∗ ownReached c) ∗ (tokItem c i ∗ (∃ f, rsPts c i f) ∗ (∃ f, agPts c i f)))
      ⊢ (iprop(sigItem c i ∗ rsItem c i ∗ agItem c i) : sProp (MT nD τ sig Unit (Elt F) ℕ UU ℕ)) := by
  unfold tokItem sigItem rsItem agItem
  iintro ⟨⟨#HB, #HO⟩, ⟨Ht, Ht0, Ht1, Ht2, Ht3⟩, Hr, Ha⟩
  isplitl [Ht Hr Ha]
  · isplitr; · iapply (bar_reached (nxt c i)); iexact HB
    isplitr; · iapply (own_reached c 1 i); iexact HO
    isplitr; · iapply (own_reached c 3 i); iexact HO
    isplitl [Ht]; · iexact Ht
    isplitl [Hr] <;> iassumption
  isplitl [Ht0 Ht1]
  · isplitl [Ht0]; · iexact Ht0
    isplitr; · iapply (own_reached c 0 i); iexact HO
    iexact Ht1
  · isplitl [Ht2]; · iexact Ht2
    isplitr; · iapply (own_reached c 2 i); iexact HO
    iexact Ht3

theorem slot_rs_one (f : Vec F S31x32x1024 .bf16) (i : Fin 31) : rsPts c i f ⊢ (iprop(∃ f, rsPts c i f) : sProp (MT nD τ sig Unit (Elt F) ℕ UU ℕ)) := by
  iintro H; iexists f; iexact H
theorem slot_rs (f : Vec F S31x32x1024 .bf16) : own c rsM f ⊢ (bigSep Finset.univ fun i => iprop(∃ f, rsPts c i f) : sProp (MT nD τ sig Unit (Elt F) ℕ UU ℕ)) := by
  rw [rs_blocks]
  exact BI.bigSep_mono fun i _ => slot_rs_one c f i
theorem slot_ag_one (f : Vec F S31x32x1024 .bf16) (i : Fin 31) : agPts c i f ⊢ (iprop(∃ f, agPts c i f) : sProp (MT nD τ sig Unit (Elt F) ℕ UU ℕ)) := by
  iintro H; iexists f; iexact H
theorem slot_ag (f : Vec F S31x32x1024 .bf16) : own c agM f ⊢ (bigSep Finset.univ fun i => iprop(∃ f, agPts c i f) : sProp (MT nD τ sig Unit (Elt F) ℕ UU ℕ)) := by
  rw [ag_blocks]
  exact BI.bigSep_mono fun i _ => slot_ag_one c f i

/-- All the rounds' duties and the two buffers make what all the signals and copies need. -/
theorem start_all :
    iprop(barReached ∗ ownReached c ∗ bigSep Finset.univ (tokItem c) ∗ (∃ f, own c rsM f) ∗ (∃ f, own c agM f))
      ⊢ (iprop(bigSep Finset.univ (sigItem c) ∗ rsItems c ∗ agItems c) : sProp (MT nD τ sig Unit (Elt F) ℕ UU ℕ)) := by
  have h := bigSep_with_persistent (S := Finset.univ) (R := iprop(barReached (F := F) ∗ ownReached c)) fun i _ => start_one (F := F) c i
  rw [bigSep_sep', bigSep_sep', bigSep_sep', bigSep_sep'] at h
  refine BIBase.Entails.trans ?_ h
  iintro ⟨HB, HO, Ht, ⟨%f, Hr⟩, ⟨%g, Ha⟩⟩
  isplitl [HB HO]
  · isplitl [HB] <;> iassumption
  isplitl [Ht]; · iexact Ht
  isplitl [Hr]
  · iapply (slot_rs c f); iexact Hr
  · iapply (slot_ag c g); iexact Ha

theorem sigSt_zero : SigSt (F := F) c 0 = iprop(due c (O₀ c) ∗ bigSep Finset.univ (sigItem c)) := by
  unfold SigSt O₀; rw [up_zero]

end Cert.KernelIdeal.Talk

end
-- ==== Proof.Ideal.Body.lean ====
/-
  The kernel's body, step by step.
-/
module

public import proofs.«01_k».proof.Proof.Ideal.Phases

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S32x32x1024 .bf16) (M : Dev nD → Vec F S32x1024 .bf16)
variable (K : GSem nD τ sig → ℕ) (c : Dev nD) (I : Dev nD → Ins F)

local notation "wpc" => wp frame (wpE (defs₀ (F := F)) 𝒱₀ (c : Thread nD τ) none) Set.univ

section
variable {α β : Type} {Q : α → sProp (MT nD τ sig Unit (Elt F) ℕ UU ℕ)} {Fr S S' : sProp (MT nD τ sig Unit (Elt F) ℕ UU ℕ)}
  {O : CellTallies nD τ sig Unit}

/-- Waiting for a slot of the reduce-scatter is allowed while all-gather copies are owed. -/
theorem above_lv {i : Fin 31} : Above (lv (cell c 1 i) ()) (oweC c 3 Finset.univ) := by
  rw [lv_cell]; exact above_oweC3 (by decide) c _
/-- One part of the body, then the rest. -/
theorem part_in {x : Prog (TpuEff nD τ sig (Elt F) Λ₀ .tc) β} {k : β → Prog (TpuEff nD τ sig (Elt F) Λ₀ .tc) α}
    (h : ∀ Φ : β → sProp (MT nD τ sig Unit (Elt F) ℕ UU ℕ), (∀ r, wpc (k r) Q ⊢ Φ r) → (S ⊢ wpc x Φ)) : S ⊢ wpc (x >>= k) Q := by
  rw [wp_bind]; exact h _ fun _ => .rfl
/-- A part's end hands its values to the rest. -/
theorem part_out {k : β → Prog (TpuEff nD τ sig (Elt F) Λ₀ .tc) α} {Φ : β → sProp (MT nD τ sig Unit (Elt F) ℕ UU ℕ)}
    (hΦ : ∀ r, wpc (k r) Q ⊢ Φ r) {r : β} (h : S ⊢ wpc (k r) Q) : S ⊢ wpc (.ret r) Φ := by
  rw [wp_ret]; exact (h.trans (hΦ r)).trans fupd_intro

variable {sp sp' : Space} {sh sh' : Shape} {e e' : EltTy} {src : Memref sig .tc sp' sh' e'} {dst : Memref sig .tc sp sh e}
  {cont : PUnit → Prog (TpuEff nD τ sig (Elt F) Λ₀ .tc) α} {k : ℕ} {h5 : ∀ a, (![k] : Fin 1 → Nat) a + S1.size a ≤ S31.size a}

/-- The wait for copy `k` of the reduce-scatter to have left. -/
theorem wait_rs_send {hsrc hdst} (hk : k < 31) (hN : dst.view.dmaCredit = N)
    (h : iprop(ctx P M K ∗ Fr ∗ WaitSt P M c 0 0 (k + 1)) ⊢ wpc (cont ⟨⟩) Q) :
    iprop(ctx P M K ∗ Fr ∗ WaitSt P M c 0 0 k)
      ⊢ wpc (.op (.waitDma2 ((cc0_scratch5.slice (Rect.unit (s := S31) ![k] S1.size h5)).squeeze S_ squeezes_S1_S_).sem src dst hsrc hdst) cont) Q :=
  wait_step P M K c 0 hk (rsS_sem hk h5) hN (above_zero _) h
/-- The wait for the slot of round `k` of the reduce-scatter to be filled. -/
theorem wait_rs {hsrc hdst} (hk : k < 31) (hN : dst.view.dmaCredit = N)
    (h : iprop(ctx P M K ∗ Fr ∗ WaitSt P M c 1 (oweC c 3 Finset.univ) (k + 1)) ⊢ wpc (cont ⟨⟩) Q) :
    iprop(ctx P M K ∗ Fr ∗ WaitSt P M c 1 (oweC c 3 Finset.univ) k)
      ⊢ wpc (.op (.waitDma2 ((cc0_scratch6.slice (Rect.unit (s := S31) ![k] S1.size h5)).squeeze S_ squeezes_S1_S_).sem src dst hsrc hdst) cont) Q :=
  wait_step P M K c 1 hk (rsR_sem hk h5) hN (above_lv c) h
/-- The wait for copy `k` of the all-gather to have left. -/
theorem wait_ag_send {hsrc hdst} (hk : k < 31) (hN : dst.view.dmaCredit = N)
    (h : iprop(ctx P M K ∗ Fr ∗ WaitSt P M c 2 0 (k + 1)) ⊢ wpc (cont ⟨⟩) Q) :
    iprop(ctx P M K ∗ Fr ∗ WaitSt P M c 2 0 k)
      ⊢ wpc (.op (.waitDma2 ((cc0_scratch7.slice (Rect.unit (s := S31) ![k] S1.size h5)).squeeze S_ squeezes_S1_S_).sem src dst hsrc hdst) cont) Q :=
  wait_step P M K c 2 hk (agS_sem hk h5) hN (above_zero _) h
/-- The wait for the slot of round `k` of the all-gather to be filled. -/
theorem wait_ag {j : ℕ} {hsrc hdst} (hk : k < 31) (hN : dst.view.dmaCredit = N)
    (h : iprop(ctx P (MM I) K ∗ Fr ∗ GatSt P c I 0 (k + 1) j) ⊢ wpc (cont ⟨⟩) Q) :
    iprop(ctx P (MM I) K ∗ Fr ∗ GatSt P c I 0 k j)
      ⊢ wpc (.op (.waitDma2 ((cc0_scratch8.slice (Rect.unit (s := S31) ![k] S1.size h5)).squeeze S_ squeezes_S1_S_).sem src dst hsrc hdst) cont) Q :=
  gat_wait P K c I hk (agR_sem hk h5) hN (above_zero _) h
end

/-- Waiting at the barrier is allowed while all copies are owed. -/
theorem above_both : Above 1 (oweC c 3 Finset.univ + oweC c 1 Finset.univ) :=
  above_add (above_oweC3 (by decide) c _) (above_oweC1 (by decide) c _)

/-- The seventh head, as the kernel cuts its computation. -/
theorem head_six (q : FVec F S1024x1024 .f32) (kb vb : Vec F S1x1024x128 .bf16) :
    k0_pay16 (k0_pay14 q k0_pay2 kb) (k0_pay15 q k0_pay2 kb) vb = headVal q ⟨6, by decide⟩ kb vb := rfl

set_option maxHeartbeats 8000000
set_option maxRecDepth 16384

/-- The kernel up to the eighth gathered block. -/
theorem body_head {Q : _ → sProp (MT nD τ sig Unit (Elt F) ℕ UU ℕ)}
    (h : ∀ w, iprop(ctx (PP I) (MM I) K ∗ Fr10 c I ∗ GatSt (PP I) c I 0 8 7) ⊢ Q ⟨c, w, k0_pay45 (slotOf (AG (MM I) c) 7)⟩) :
    iprop(ctx (PP I) (MM I) K ∗ (Fr0 c I ∗ barAt c 0 ∗ barCred c) ∗ SigSt c 0) ⊢ wpc (k0_part79 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q := by
  rw [k0_part79_eq_skeleton]; unfold k0_part79_skel
  refine part_in c fun Φ hΦ => ?_
  rw [k0_part1_eq_skeleton]; simp only [k0_part1_skel, semSignalWord, semWaitWord, Prog.lift, Prog.bind_op, Prog.bind_ret, Prog.pure_eq_ret, Prog.bind_assoc, wp_deviceId]
  iterate 5 refine sig_step _ _ K c (by decide) rfl ?_
  refine part_out c hΦ ?_
  clear hΦ
  refine part_in c fun Φ hΦ => ?_
  rw [k0_part2_eq_skeleton]; simp only [k0_part2_skel, semSignalWord, semWaitWord, Prog.lift, Prog.bind_op, Prog.bind_ret, Prog.pure_eq_ret, Prog.bind_assoc, wp_deviceId]
  iterate 6 refine sig_step _ _ K c (by decide) rfl ?_
  refine part_out c hΦ ?_
  clear hΦ
  refine part_in c fun Φ hΦ => ?_
  rw [k0_part3_eq_skeleton]; simp only [k0_part3_skel, semSignalWord, semWaitWord, Prog.lift, Prog.bind_op, Prog.bind_ret, Prog.pure_eq_ret, Prog.bind_assoc, wp_deviceId]
  iterate 6 refine sig_step _ _ K c (by decide) rfl ?_
  refine part_out c hΦ ?_
  clear hΦ
  refine part_in c fun Φ hΦ => ?_
  rw [k0_part4_eq_skeleton]; simp only [k0_part4_skel, semSignalWord, semWaitWord, Prog.lift, Prog.bind_op, Prog.bind_ret, Prog.pure_eq_ret, Prog.bind_assoc, wp_deviceId]
  iterate 6 refine sig_step _ _ K c (by decide) rfl ?_
  refine part_out c hΦ ?_
  clear hΦ
  refine part_in c fun Φ hΦ => ?_
  rw [k0_part5_eq_skeleton]; simp only [k0_part5_skel, semSignalWord, semWaitWord, Prog.lift, Prog.bind_op, Prog.bind_ret, Prog.pure_eq_ret, Prog.bind_assoc, wp_deviceId]
  iterate 6 refine sig_step _ _ K c (by decide) rfl ?_
  refine part_out c hΦ ?_
  clear hΦ
  refine part_in c fun Φ hΦ => ?_
  rw [k0_part6_eq_skeleton]; simp only [k0_part6_skel, semSignalWord, semWaitWord, Prog.lift, Prog.bind_op, Prog.bind_ret, Prog.pure_eq_ret, Prog.bind_assoc, wp_deviceId]
  iterate 2 refine sig_step _ _ K c (by decide) rfl ?_
  refine (to1 _ _ K c I).trans ?_
  refine bar_step _ _ K c rfl (above_both c) ?_
  refine (to2 _ _ K c I).trans ?_
  refine ld_x _ _ K c ?_
  refine ld_wq _ _ K c ?_
  refine ld_k _ _ K c (by decide) ?_
  refine part_out c hΦ ?_
  clear hΦ
  refine part_in c fun Φ hΦ => ?_
  rw [k0_part7_eq_skeleton]; simp only [k0_part7_skel, semSignalWord, semWaitWord, Prog.lift, Prog.bind_op, Prog.bind_ret, Prog.pure_eq_ret, Prog.bind_assoc, wp_deviceId]
  refine ld_v _ _ K c (by decide) ?_
  refine ld_ctx _ _ K c fun _ => ?_
  refine st_ctx _ _ K c (by decide) rfl ?_
  refine ld_k _ _ K c (by decide) ?_
  refine ld_v _ _ K c (by decide) ?_
  refine ld_ctx _ _ K c fun _ => ?_
  refine st_ctx _ _ K c (by decide) rfl ?_
  refine part_out c hΦ ?_
  clear hΦ
  refine part_in c fun Φ hΦ => ?_
  rw [k0_part8_eq_skeleton]; simp only [k0_part8_skel, semSignalWord, semWaitWord, Prog.lift, Prog.bind_op, Prog.bind_ret, Prog.pure_eq_ret, Prog.bind_assoc, wp_deviceId]
  refine ld_k _ _ K c (by decide) ?_
  refine ld_v _ _ K c (by decide) ?_
  refine ld_ctx _ _ K c fun _ => ?_
  refine st_ctx _ _ K c (by decide) rfl ?_
  refine ld_k _ _ K c (by decide) ?_
  refine part_out c hΦ ?_
  clear hΦ
  refine part_in c fun Φ hΦ => ?_
  rw [k0_part9_eq_skeleton]; simp only [k0_part9_skel, semSignalWord, semWaitWord, Prog.lift, Prog.bind_op, Prog.bind_ret, Prog.pure_eq_ret, Prog.bind_assoc, wp_deviceId]
  refine ld_v _ _ K c (by decide) ?_
  refine ld_ctx _ _ K c fun _ => ?_
  refine st_ctx _ _ K c (by decide) rfl ?_
  refine ld_k _ _ K c (by decide) ?_
  refine ld_v _ _ K c (by decide) ?_
  refine ld_ctx _ _ K c fun _ => ?_
  refine part_out c hΦ ?_
  clear hΦ
  refine part_in c fun Φ hΦ => ?_
  rw [k0_part10_eq_skeleton]; simp only [k0_part10_skel, semSignalWord, semWaitWord, Prog.lift, Prog.bind_op, Prog.bind_ret, Prog.pure_eq_ret, Prog.bind_assoc, wp_deviceId]
  refine st_ctx _ _ K c (by decide) rfl ?_
  refine ld_k _ _ K c (by decide) ?_
  refine ld_v _ _ K c (by decide) ?_
  refine ld_ctx _ _ K c fun _ => ?_
  refine st_ctx _ _ K c (by decide) rfl ?_
  refine ld_k _ _ K c (by decide) ?_
  refine part_out c hΦ ?_
  clear hΦ
  refine part_in c fun Φ hΦ => ?_
  rw [k0_part11_eq_skeleton]; simp only [k0_part11_skel, semSignalWord, semWaitWord, Prog.lift, Prog.bind_op, Prog.bind_ret, Prog.pure_eq_ret, Prog.bind_assoc, wp_deviceId]
  refine ld_v _ _ K c (by decide) ?_
  refine ld_ctx _ _ K c fun _ => ?_
  refine st_ctx _ _ K c (by decide) (head_six _ _ _) ?_
  refine ld_k _ _ K c (by decide) ?_
  refine ld_v _ _ K c (by decide) ?_
  refine part_out c hΦ ?_
  clear hΦ
  refine part_in c fun Φ hΦ => ?_
  rw [k0_part12_eq_skeleton]; simp only [k0_part12_skel, semSignalWord, semWaitWord, Prog.lift, Prog.bind_op, Prog.bind_ret, Prog.pure_eq_ret, Prog.bind_assoc, wp_deviceId]
  refine ld_ctx _ _ K c fun _ => ?_
  refine st_ctx _ _ K c (by decide) rfl ?_
  refine ld_ctx_done _ _ K c ?_
  refine ld_wo _ _ K c ?_
  refine ld_part _ _ K c fun _ => ?_
  refine st_part _ _ K c ?_
  refine (to3 _ _ K c I).trans ?_
  refine rs_send _ _ K c (by decide) ?_
  refine part_out c hΦ ?_
  clear hΦ
  refine part_in c fun Φ hΦ => ?_
  rw [k0_part13_eq_skeleton]; simp only [k0_part13_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part14_eq_skeleton]; simp only [k0_part14_skel, semSignalWord, semWaitWord, Prog.lift, Prog.bind_op, Prog.bind_ret, Prog.pure_eq_ret, Prog.bind_assoc, wp_deviceId]
  iterate 2 refine rs_send _ _ K c (by decide) ?_
  refine part_out c hΦ ?_
  clear hΦ
  refine part_in c fun Φ hΦ => ?_
  rw [k0_part15_eq_skeleton]; simp only [k0_part15_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part16_eq_skeleton]; simp only [k0_part16_skel, semSignalWord, semWaitWord, Prog.lift, Prog.bind_op, Prog.bind_ret, Prog.pure_eq_ret, Prog.bind_assoc, wp_deviceId]
  iterate 2 refine rs_send _ _ K c (by decide) ?_
  refine part_out c hΦ ?_
  clear hΦ
  refine part_in c fun Φ hΦ => ?_
  rw [k0_part17_eq_skeleton]; simp only [k0_part17_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part18_eq_skeleton]; simp only [k0_part18_skel, semSignalWord, semWaitWord, Prog.lift, Prog.bind_op, Prog.bind_ret, Prog.pure_eq_ret, Prog.bind_assoc, wp_deviceId]
  iterate 2 refine rs_send _ _ K c (by decide) ?_
  refine part_out c hΦ ?_
  clear hΦ
  refine part_in c fun Φ hΦ => ?_
  rw [k0_part19_eq_skeleton]; simp only [k0_part19_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part20_eq_skeleton]; simp only [k0_part20_skel, semSignalWord, semWaitWord, Prog.lift, Prog.bind_op, Prog.bind_ret, Prog.pure_eq_ret, Prog.bind_assoc, wp_deviceId]
  iterate 2 refine rs_send _ _ K c (by decide) ?_
  refine part_out c hΦ ?_
  clear hΦ
  refine part_in c fun Φ hΦ => ?_
  rw [k0_part21_eq_skeleton]; simp only [k0_part21_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part22_eq_skeleton]; simp only [k0_part22_skel, semSignalWord, semWaitWord, Prog.lift, Prog.bind_op, Prog.bind_ret, Prog.pure_eq_ret, Prog.bind_assoc, wp_deviceId]
  iterate 2 refine rs_send _ _ K c (by decide) ?_
  refine part_out c hΦ ?_
  clear hΦ
  refine part_in c fun Φ hΦ => ?_
  rw [k0_part23_eq_skeleton]; simp only [k0_part23_skel, semSignalWord, semWaitWord, Prog.lift, Prog.bind_op, Prog.bind_ret, Prog.pure_eq_ret, Prog.bind_assoc, wp_deviceId]
  iterate 3 refine rs_send _ _ K c (by decide) ?_
  refine part_out c hΦ ?_
  clear hΦ
  refine part_in c fun Φ hΦ => ?_
  rw [k0_part24_eq_skeleton]; simp only [k0_part24_skel, semSignalWord, semWaitWord, Prog.lift, Prog.bind_op, Prog.bind_ret, Prog.pure_eq_ret, Prog.bind_assoc, wp_deviceId]
  iterate 2 refine rs_send _ _ K c (by decide) ?_
  refine (to4 _ _ K c I).trans ?_
  refine ld_own _ _ K c (k0_off2_eq c) ?_
  refine (to5 _ _ K c I).trans ?_
  refine part_out c hΦ ?_
  clear hΦ
  refine part_in c fun Φ hΦ => ?_
  rw [k0_part25_eq_skeleton]; simp only [k0_part25_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part26_eq_skeleton]; simp only [k0_part26_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part27_eq_skeleton]; simp only [k0_part27_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part28_eq_skeleton]; simp only [k0_part28_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part29_eq_skeleton]; simp only [k0_part29_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine wait_rs _ _ K c (by decide) rfl ?_
  refine part_out c hΦ ?_
  clear hΦ
  refine part_in c fun Φ hΦ => ?_
  rw [k0_part30_eq_skeleton]; simp only [k0_part30_skel, semSignalWord, semWaitWord, Prog.lift, Prog.bind_op, Prog.bind_ret, Prog.pure_eq_ret, Prog.bind_assoc, wp_deviceId]
  refine ld_rs _ _ K c (by decide) (by decide) ?_
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part31_eq_skeleton]; simp only [k0_part31_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part32_eq_skeleton]; simp only [k0_part32_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine wait_rs _ _ K c (by decide) rfl ?_
  refine part_out c hΦ ?_
  clear hΦ
  refine part_in c fun Φ hΦ => ?_
  rw [k0_part33_eq_skeleton]; simp only [k0_part33_skel, semSignalWord, semWaitWord, Prog.lift, Prog.bind_op, Prog.bind_ret, Prog.pure_eq_ret, Prog.bind_assoc, wp_deviceId]
  refine ld_rs _ _ K c (by decide) (by decide) ?_
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part34_eq_skeleton]; simp only [k0_part34_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part35_eq_skeleton]; simp only [k0_part35_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part36_eq_skeleton]; simp only [k0_part36_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part37_eq_skeleton]; simp only [k0_part37_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine wait_rs _ _ K c (by decide) rfl ?_
  refine ld_rs _ _ K c (by decide) (by decide) ?_
  refine part_out c hΦ ?_
  clear hΦ
  refine part_in c fun Φ hΦ => ?_
  rw [k0_part38_eq_skeleton]; simp only [k0_part38_skel, semSignalWord, semWaitWord, Prog.lift, Prog.bind_op, Prog.bind_ret, Prog.pure_eq_ret, Prog.bind_assoc, wp_deviceId]
  refine wait_rs _ _ K c (by decide) rfl ?_
  refine ld_rs _ _ K c (by decide) (by decide) ?_
  refine (to6 _ _ K c I).trans ?_
  refine ld_red _ _ K c fun _ => ?_
  refine st_red _ _ K c I rfl ?_
  refine (to7 _ _ K c I).trans ?_
  refine ag_send _ _ K c (by decide) ?_
  refine part_out c hΦ ?_
  clear hΦ
  refine part_in c fun Φ hΦ => ?_
  rw [k0_part39_eq_skeleton]; simp only [k0_part39_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part40_eq_skeleton]; simp only [k0_part40_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part41_eq_skeleton]; simp only [k0_part41_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part42_eq_skeleton]; simp only [k0_part42_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part43_eq_skeleton]; simp only [k0_part43_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part44_eq_skeleton]; simp only [k0_part44_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part45_eq_skeleton]; simp only [k0_part45_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part46_eq_skeleton]; simp only [k0_part46_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part47_eq_skeleton]; simp only [k0_part47_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part48_eq_skeleton]; simp only [k0_part48_skel, semSignalWord, semWaitWord, Prog.lift, Prog.bind_op, Prog.bind_ret, Prog.pure_eq_ret, Prog.bind_assoc, wp_deviceId]
  iterate 3 refine ag_send _ _ K c (by decide) ?_
  refine part_out c hΦ ?_
  clear hΦ
  refine part_in c fun Φ hΦ => ?_
  rw [k0_part49_eq_skeleton]; simp only [k0_part49_skel, semSignalWord, semWaitWord, Prog.lift, Prog.bind_op, Prog.bind_ret, Prog.pure_eq_ret, Prog.bind_assoc, wp_deviceId]
  refine (to8 _ _ K c I).trans ?_
  iterate 4 refine wait_rs_send _ _ K c (by decide) rfl ?_
  refine part_out c hΦ ?_
  clear hΦ
  refine part_in c fun Φ hΦ => ?_
  rw [k0_part50_eq_skeleton]; simp only [k0_part50_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part51_eq_skeleton]; simp only [k0_part51_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part52_eq_skeleton]; simp only [k0_part52_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part53_eq_skeleton]; simp only [k0_part53_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part54_eq_skeleton]; simp only [k0_part54_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part55_eq_skeleton]; simp only [k0_part55_skel, semSignalWord, semWaitWord, Prog.lift, Prog.bind_op, Prog.bind_ret, Prog.pure_eq_ret, Prog.bind_assoc, wp_deviceId]
  iterate 4 refine wait_rs_send _ _ K c (by decide) rfl ?_
  refine part_out c hΦ ?_
  clear hΦ
  refine part_in c fun Φ hΦ => ?_
  rw [k0_part56_eq_skeleton]; simp only [k0_part56_skel, semSignalWord, semWaitWord, Prog.lift, Prog.bind_op, Prog.bind_ret, Prog.pure_eq_ret, Prog.bind_assoc, wp_deviceId]
  iterate 3 refine wait_rs_send _ _ K c (by decide) rfl ?_
  refine (to9 _ _ K c I).trans ?_
  refine ld_out_any _ _ K c fun _ => ?_
  refine st_own _ _ K c I (k0_off2_eq c) rfl ?_
  refine (to10 _ _ K c I).trans ?_
  refine wait_ag _ K c I (by decide) rfl ?_
  refine part_out c hΦ ?_
  clear hΦ
  refine part_in c fun Φ hΦ => ?_
  rw [k0_part57_eq_skeleton]; simp only [k0_part57_skel, semSignalWord, semWaitWord, Prog.lift, Prog.bind_op, Prog.bind_ret, Prog.pure_eq_ret, Prog.bind_assoc, wp_deviceId]
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine part_out c hΦ ?_
  clear hΦ
  refine part_in c fun Φ hΦ => ?_
  rw [k0_part58_eq_skeleton]; simp only [k0_part58_skel, semSignalWord, semWaitWord, Prog.lift, Prog.bind_op, Prog.bind_ret, Prog.pure_eq_ret, Prog.bind_assoc, wp_deviceId]
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part59_eq_skeleton]; simp only [k0_part59_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part60_eq_skeleton]; simp only [k0_part60_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine part_out c hΦ ?_
  clear hΦ
  rw [Prog.pure_eq_ret, wp_ret]
  exact (h _).trans fupd_intro

/-- The kernel's body: from what a device has at the start to what it has at the end. -/
theorem body_run : iprop(ctx (PP I) (MM I) K ∗ (Fr0 c I ∗ barAt c 0 ∗ barCred c) ∗ SigSt c 0) ⊢ wpc (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => Post c I) := by
  rw [cc0_body_eq_skeleton]; unfold cc0_body_skel
  refine part_in c fun Φ hΦ => ?_
  refine body_head K c I fun w => ?_
  refine .trans ?_ (hΦ _)
  clear hΦ
  refine part_in c fun Φ hΦ => ?_
  rw [k0_part61_eq_skeleton]; simp only [k0_part61_skel, semSignalWord, semWaitWord, Prog.lift, Prog.bind_op, Prog.bind_ret, Prog.pure_eq_ret, Prog.bind_assoc, wp_deviceId]
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine part_out c hΦ ?_
  clear hΦ
  refine part_in c fun Φ hΦ => ?_
  rw [k0_part62_eq_skeleton]; simp only [k0_part62_skel, semSignalWord, semWaitWord, Prog.lift, Prog.bind_op, Prog.bind_ret, Prog.pure_eq_ret, Prog.bind_assoc, wp_deviceId]
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine part_out c hΦ ?_
  clear hΦ
  refine part_in c fun Φ hΦ => ?_
  rw [k0_part63_eq_skeleton]; simp only [k0_part63_skel, semSignalWord, semWaitWord, Prog.lift, Prog.bind_op, Prog.bind_ret, Prog.pure_eq_ret, Prog.bind_assoc, wp_deviceId]
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part64_eq_skeleton]; simp only [k0_part64_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part65_eq_skeleton]; simp only [k0_part65_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part66_eq_skeleton]; simp only [k0_part66_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine part_out c hΦ ?_
  clear hΦ
  refine part_in c fun Φ hΦ => ?_
  rw [k0_part67_eq_skeleton]; simp only [k0_part67_skel, semSignalWord, semWaitWord, Prog.lift, Prog.bind_op, Prog.bind_ret, Prog.pure_eq_ret, Prog.bind_assoc, wp_deviceId]
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine part_out c hΦ ?_
  clear hΦ
  refine part_in c fun Φ hΦ => ?_
  rw [k0_part68_eq_skeleton]; simp only [k0_part68_skel, semSignalWord, semWaitWord, Prog.lift, Prog.bind_op, Prog.bind_ret, Prog.pure_eq_ret, Prog.bind_assoc, wp_deviceId]
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine part_out c hΦ ?_
  clear hΦ
  refine part_in c fun Φ hΦ => ?_
  rw [k0_part69_eq_skeleton]; simp only [k0_part69_skel, semSignalWord, semWaitWord, Prog.lift, Prog.bind_op, Prog.bind_ret, Prog.pure_eq_ret, Prog.bind_assoc, wp_deviceId]
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part70_eq_skeleton]; simp only [k0_part70_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine part_out c hΦ ?_
  clear hΦ
  refine part_in c fun Φ hΦ => ?_
  rw [k0_part71_eq_skeleton]; simp only [k0_part71_skel, semSignalWord, semWaitWord, Prog.lift, Prog.bind_op, Prog.bind_ret, Prog.pure_eq_ret, Prog.bind_assoc, wp_deviceId]
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine ld_out _ K c I fun _ => ?_
  refine part_out c hΦ ?_
  clear hΦ
  refine part_in c fun Φ hΦ => ?_
  rw [k0_part72_eq_skeleton]; simp only [k0_part72_skel, semSignalWord, semWaitWord, Prog.lift, Prog.bind_op, Prog.bind_ret, Prog.pure_eq_ret, Prog.bind_assoc, wp_deviceId]
  refine st_out _ K c I (by decide) rfl ?_
  refine wait_ag _ K c I (by decide) rfl ?_
  refine ld_ag _ K c I (by decide) (by decide) ?_
  refine ld_out _ K c I fun _ => ?_
  refine st_out _ K c I (by decide) rfl ?_
  refine wait_ag _ K c I (by decide) rfl ?_
  refine ld_ag _ K c I (by decide) (by decide) ?_
  refine part_out c hΦ ?_
  clear hΦ
  refine part_in c fun Φ hΦ => ?_
  rw [k0_part73_eq_skeleton]; simp only [k0_part73_skel, semSignalWord, semWaitWord, Prog.lift, Prog.bind_op, Prog.bind_ret, Prog.pure_eq_ret, Prog.bind_assoc, wp_deviceId]
  refine ld_out _ K c I fun _ => ?_
  refine st_out _ K c I (by decide) rfl ?_
  refine wait_ag _ K c I (by decide) rfl ?_
  refine ld_ag _ K c I (by decide) (by decide) ?_
  refine ld_out _ K c I fun _ => ?_
  refine st_out _ K c I (by decide) rfl ?_
  refine (to11 _ _ K c I).trans ?_
  refine wait_ag_send _ _ K c (by decide) rfl ?_
  refine part_out c hΦ ?_
  clear hΦ
  refine part_in c fun Φ hΦ => ?_
  rw [k0_part74_eq_skeleton]; simp only [k0_part74_skel, semSignalWord, semWaitWord, Prog.lift, Prog.bind_op, Prog.bind_ret, Prog.pure_eq_ret, Prog.bind_assoc, wp_deviceId]
  iterate 6 refine wait_ag_send _ _ K c (by decide) rfl ?_
  refine part_out c hΦ ?_
  clear hΦ
  refine part_in c fun Φ hΦ => ?_
  rw [k0_part75_eq_skeleton]; simp only [k0_part75_skel, semSignalWord, semWaitWord, Prog.lift, Prog.bind_op, Prog.bind_ret, Prog.pure_eq_ret, Prog.bind_assoc, wp_deviceId]
  iterate 5 refine wait_ag_send _ _ K c (by decide) rfl ?_
  refine part_out c hΦ ?_
  clear hΦ
  refine part_in c fun Φ hΦ => ?_
  rw [k0_part76_eq_skeleton]; simp only [k0_part76_skel, semSignalWord, semWaitWord, Prog.lift, Prog.bind_op, Prog.bind_ret, Prog.pure_eq_ret, Prog.bind_assoc, wp_deviceId]
  iterate 6 refine wait_ag_send _ _ K c (by decide) rfl ?_
  refine part_out c hΦ ?_
  clear hΦ
  refine part_in c fun Φ hΦ => ?_
  rw [k0_part77_eq_skeleton]; simp only [k0_part77_skel, semSignalWord, semWaitWord, Prog.lift, Prog.bind_op, Prog.bind_ret, Prog.pure_eq_ret, Prog.bind_assoc, wp_deviceId]
  iterate 5 refine wait_ag_send _ _ K c (by decide) rfl ?_
  refine part_out c hΦ ?_
  clear hΦ
  refine part_in c fun Φ hΦ => ?_
  rw [k0_part78_eq_skeleton]; simp only [k0_part78_skel, semSignalWord, semWaitWord, Prog.lift, Prog.bind_op, Prog.bind_ret, Prog.pure_eq_ret, Prog.bind_assoc, wp_deviceId]
  iterate 6 refine wait_ag_send _ _ K c (by decide) rfl ?_
  refine part_out c hΦ ?_
  clear hΦ
  simp only [semSignalWord, semWaitWord, Prog.lift, Prog.bind_op, Prog.bind_ret, Prog.pure_eq_ret, Prog.bind_assoc, wp_deviceId]
  iterate 2 refine wait_ag_send _ _ K c (by decide) rfl ?_
  rw [wp_ret]
  exact (to12 _ _ K c I).trans fupd_intro

end Cert.KernelIdeal.Talk
-- ==== Proof.Ideal.Region.lean ====
/-
  The kernel as one region of the program: what it finds in its windows, what it
  leaves there, and what it needs and gives back of the protocol.
-/
module

public import proofs.«01_k».proof.Proof.Ideal.Opening
public import proofs.«01_k».proof.Proof.Ideal.Body

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## A window that is its whole array -/

section Whole

variable {s : Shape} {e : EltTy} {cs : CoreSpace} (arr : Memref sig .tc .hbm s e) (o y : Bool)
  (stage : Memref sig .tc (.core cs) ⟨s.rank, s.size⟩ e) (sem : DmaSem sig) (ha : arr.IsWhole) (hs : stage.IsWhole)

theorem whole_emb (t : Fin Pipeline.Grid.none.N) (j : s.Idx) :
    ((Pipeline.Window.whole arr o y stage sem ha hs).blk t).view.emb j = arr.view.emb j := by
  show arr.view.emb _ = arr.view.emb j
  congr 1
  funext a
  apply Fin.ext
  rw [Rect.emb_apply]
  show 0 * _ + 1 * (j a).val = (j a).val
  omega

theorem whole_read (t : Fin Pipeline.Grid.none.N) (f : BufTy.Contents (Elt F) arr.view.ref.ty) :
    ((Pipeline.Window.whole arr o y stage sem ha hs).blk t).view.read (Elt F) f = arr.view.read (Elt F) f := by
  funext j
  rw [View.read_apply, View.read_apply]
  erw [whole_emb]

end Whole

/-! ## The proof data -/

variable (m : (ℓ : Loc nD τ sig) → Buf (Elt F) ℓ)

/-- What device `c` finds in its five input windows. -/
def ins (c : Dev nD) : Ins F where
  x := V1 m c main_v5
  wq := V1 m c main_arg1
  k := V1 m c main_v18
  v := V1 m c main_v19
  wo := V1 m c main_arg4

/-- The barrier's credit and the arrivals'. -/
def creds (c : Dev nD) : sProp (MT nD τ sig Unit (Elt F) ℕ UU ℕ) := iprop(barCred c ∗ crd c 1 ∗ crd c 3)
/-- What the launch made for device `c`. -/
def start (c : Dev nD) : sProp (MT nD τ sig Unit (Elt F) ℕ UU ℕ) :=
  iprop((∃ K, invs (PP (ins m)) (MM (ins m)) K ∗ barReached ∗ barAt c 0
    ∗ (bigSep Finset.univ fun k : Fin 4 × Fin 31 => openTok ER (cell c k.1 k.2)) ∗ bigSep Finset.univ (tokItem c)) ∗ creds c)
/-- The same with the DMA semaphores opened. -/
def opened (c : Dev nD) : sProp (MT nD τ sig Unit (Elt F) ℕ UU ℕ) :=
  iprop((∃ K, ctx (PP (ins m)) (MM (ins m)) K ∗ barReached ∗ ownReached c ∗ barAt c 0 ∗ pos0 c ∗ bigSep Finset.univ (tokItem c)) ∗ creds c)

/-- The scratch buffers at some contents. -/
def scratch (c : Dev nD) : sProp (MT nD τ sig Unit (Elt F) ℕ UU ℕ) :=
  Pipeline.scopedRest (Ix := Unit) (Name := ℕ) (U := UU) (Lvl := ℕ) (Val := Elt F) spec0 c

def dat (c : Dev nD) : Dat τ (Elt F) Unit ℕ UU ℕ cfg0 c where
  A := fun | 0 => V1 m c main_v5 | 1 => V1 m c main_arg1 | 2 => V1 m c main_v18 | 3 => V1 m c main_v19 | 4 => V1 m c main_arg4 | 5 => V1 m c main_v20
  after w _ := match w with
    | 0 => (ins m c).x | 1 => (ins m c).wq | 2 => (ins m c).k | 3 => (ins m c).v | 4 => (ins m c).wo | 5 => OUT (ins m) c
  Φ t := if t.val = 0 then iprop(scratch c ∗ (∃ r, prngReg c r) ∗ opened m c)
    else iprop(scratch c ∗ (∃ r, prngReg c r) ∗ Pipeline.ownSems0 osem c ∗ semVal (barCell c) 0)
  q _ := fullShare
  owed t := if t.val = 0 then O₀ c else 0

theorem before_in0 (c : Dev nD) (d) : (dat m c).before 0 t0_0 d = (ins m c).x := by
  unfold Dat.before
  rw [if_pos (fetch0_0 t0_0)]
  show ((cfg0.win 0).blk t0_0).view.read (Elt F) (V1 m c main_v5) = V1 m c main_v5
  have h := whole_read (F := F) (Memref.whole main_v5) false false (stage0_0 0) (sem0_0 0) (Memref.isWhole_whole _) (hstage0_0 0) t0_0 (V1 m c main_v5)
  exact h.trans (View.read_whole _ _)
theorem before_in1 (c : Dev nD) (d) : (dat m c).before 1 t0_0 d = (ins m c).wq := by
  unfold Dat.before
  rw [if_pos (fetch0_1 t0_0)]
  show ((cfg0.win 1).blk t0_0).view.read (Elt F) (V1 m c main_arg1) = V1 m c main_arg1
  have h := whole_read (F := F) (Memref.whole main_arg1) false false (stage0_1 0) (sem0_1 0) (Memref.isWhole_whole _) (hstage0_1 0) t0_0 (V1 m c main_arg1)
  exact h.trans (View.read_whole _ _)
theorem before_in2 (c : Dev nD) (d) : (dat m c).before 2 t0_0 d = (ins m c).k := by
  unfold Dat.before
  rw [if_pos (fetch0_2 t0_0)]
  show ((cfg0.win 2).blk t0_0).view.read (Elt F) (V1 m c main_v18) = V1 m c main_v18
  have h := whole_read (F := F) (Memref.whole main_v18) false false (stage0_2 0) (sem0_2 0) (Memref.isWhole_whole _) (hstage0_2 0) t0_0 (V1 m c main_v18)
  exact h.trans (View.read_whole _ _)
theorem before_in3 (c : Dev nD) (d) : (dat m c).before 3 t0_0 d = (ins m c).v := by
  unfold Dat.before
  rw [if_pos (fetch0_3 t0_0)]
  show ((cfg0.win 3).blk t0_0).view.read (Elt F) (V1 m c main_v19) = V1 m c main_v19
  have h := whole_read (F := F) (Memref.whole main_v19) false false (stage0_3 0) (sem0_3 0) (Memref.isWhole_whole _) (hstage0_3 0) t0_0 (V1 m c main_v19)
  exact h.trans (View.read_whole _ _)
theorem before_in4 (c : Dev nD) (d) : (dat m c).before 4 t0_0 d = (ins m c).wo := by
  unfold Dat.before
  rw [if_pos (fetch0_4 t0_0)]
  show ((cfg0.win 4).blk t0_0).view.read (Elt F) (V1 m c main_arg4) = V1 m c main_arg4
  have h := whole_read (F := F) (Memref.whole main_arg4) false false (stage0_4 0) (sem0_4 0) (Memref.isWhole_whole _) (hstage0_4 0) t0_0 (V1 m c main_arg4)
  exact h.trans (View.read_whole _ _)

/-- The result array after the region. -/
theorem arr_out (c : Dev nD) : (dat m c).arrAt 5 1 = OUT (ins m) c := by
  unfold Dat.arrAt
  rw [dif_pos (show 0 < cfg0.N by exact (by decide : 0 < grid0.N)), if_pos (flush0_5 _)]
  funext j
  have e : ((cfg0.win 5).blk t0_0).view.emb j = j :=
    whole_emb (Memref.whole main_v20) true false (stage0_5 0) (sem0_5 0) (Memref.isWhole_whole _) (hstage0_5 0) t0_0 j
  have h := View.write_emb_of_mem (v := ((cfg0.win 5).blk t0_0).view) (Val := Elt F) ((dat m c).arrAt 5 0) ((dat m c).flushed 5 t0_0) (Finset.mem_univ j)
  exact ((congrArg (((cfg0.win 5).blk t0_0).view.write (Elt F) ((dat m c).arrAt 5 0) ((dat m c).flushed 5 t0_0) Finset.univ) e).symm.trans (h.trans (cast_eq _ _)))

/-! ## The body -/

theorem owed_first (c : Dev nD) : (dat m c).owed t0_0.castSucc = O₀ c := by
  show (if t0_0.castSucc.val = 0 then O₀ c else 0) = O₀ c
  exact if_pos rfl
theorem owed_last (c : Dev nD) : (dat m c).owed t0_0.succ = 0 := by
  show (if t0_0.succ.val = 0 then O₀ c else 0) = 0
  exact if_neg (Nat.succ_ne_zero _)

theorem due_of_owesAt (c : Dev nD) : ((dat m c).owesAt () t0_0.castSucc : sProp (MT nD τ sig Unit (Elt F) ℕ UU ℕ)) ⊢ due c (O₀ c) := by
  unfold Dat.owesAt Pipeline.owesWithin due; rw [owed_first]
  iintro ⟨%W, -, HO⟩; iexists W; iexact HO
theorem owesAt_of_due (c : Dev nD) : due c 0 ⊢ ((dat m c).owesAt () t0_0.succ : sProp (MT nD τ sig Unit (Elt F) ℕ UU ℕ)) := by
  unfold Dat.owesAt Pipeline.owesWithin due Dat.bound; rw [owed_last]
  iintro ⟨%W, HO⟩; iexists W
  isplitr; · ipureintro; exact fun _ _ => Or.inl trivial
  iexact HO

theorem scratch_eq (c : Dev nD) : (scratch c : sProp (MT nD τ sig Unit (Elt F) ℕ UU ℕ))
    = iprop(partAny c ∗ ctxAny c ∗ redAny c ∗ (∃ f : Vec F S31x32x1024 .bf16, own c rsM f) ∗ (∃ f : Vec F S31x32x1024 .bf16, own c agM f)) := by
  unfold scratch partAny ctxAny redAny; exact scopedRest0_eq c

theorem ctx_none (i : Ins F) (c : Dev nD) : ctxAny c ⊢ (ctxUp c i 0 : sProp (MT nD τ sig Unit (Elt F) ℕ UU ℕ)) := by
  unfold ctxAny ctxUp
  iintro ⟨%g, H⟩
  iexists g
  isplitr; · ipureintro; exact fun x hx => absurd hx (by omega)
  iexact H

theorem invs_of_ctx (P : Dev nD → Vec F S32x32x1024 .bf16) (M : Dev nD → Vec F S32x1024 .bf16) (K : GSem nD τ sig → ℕ) : ctx P M K ⊢ invs P M K := by
  unfold ctx
  iintro ⟨H, -⟩; iexact H

/-- What the body starts from. -/
theorem body_pre (K : GSem nD τ sig → ℕ) (c : Dev nD) :
    iprop(ctx (PP (ins m)) (MM (ins m)) K ∗ (barReached ∗ ownReached c ∗ barAt c 0 ∗ pos0 c ∗ bigSep Finset.univ (tokItem c)) ∗ creds c ∗ scratch c
        ∗ due c (O₀ c) ∗ insPts c (ins m c) ∗ outAny c)
      ⊢ iprop(ctx (PP (ins m)) (MM (ins m)) K ∗ (Fr0 c (ins m) ∗ barAt c 0 ∗ barCred c) ∗ SigSt c 0) := by
  rw [scratch_eq, sigSt_zero]
  unfold creds Fr0 Cmp
  iintro ⟨#Hc, ⟨#HB, #HO, Hb, Hp, Ht⟩, ⟨HcB, Hc1, Hc3⟩, ⟨HPa, HCa, HRa, Hrs, Hag⟩, Hdue, Hi, Ho⟩
  ihave Hst := (start_all (F := F) c) $$ [Ht Hrs Hag]
  · isplitr; · iexact HB
    isplitr; · iexact HO
    isplitl [Ht]; · iexact Ht
    isplitl [Hrs] <;> iassumption
  icases Hst with ⟨Hsig, Hr, Ha⟩
  isplitr; · iexact Hc
  isplitr [Hdue Hsig]
  · isplitr [Hb HcB]
    · isplitl [Hr]; · iexact Hr
      isplitl [Ha]; · iexact Ha
      isplitl [Hp]; · iexact Hp
      isplitl [Hc1]; · iexact Hc1
      isplitl [Hc3]; · iexact Hc3
      isplitl [Hi HCa HPa]
      · isplitl [Hi]; · iexact Hi
        isplitl [HCa]; · iapply (ctx_none (ins m c) c); iexact HCa
        iexact HPa
      isplitl [HRa] <;> iassumption
    · isplitl [Hb] <;> iassumption
  · isplitl [Hdue] <;> iassumption

theorem bodyAt_eq : bodyAt0 (F := F) t0_0 = cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 := rfl

/-- The body on its staging buffers, its semaphores closed at the end. -/
theorem body_spec (K : GSem nD τ sig → ℕ) (c : Dev nD) :
    iprop(ctx (PP (ins m)) (MM (ins m)) K ∗ (Fr0 c (ins m) ∗ barAt c 0 ∗ barCred c) ∗ SigSt c 0)
      ⊢ wp frame (wpE (defs₀ (F := F)) 𝒱₀ (c : Thread nD τ) none) Set.univ (bodyAt0 t0_0) (fun _ => Post c (ins m)) := by
  rw [bodyAt_eq]; exact body_run K c (ins m)

/-- What the body leaves, its semaphores closed. -/
theorem body_post (K : GSem nD τ sig → ℕ) (c : Dev nD) :
    iprop(ctx (PP (ins m)) (MM (ins m)) K ∗ Post c (ins m))
      ⊢ (|={Set.univ}=> (due c 0 ∗ insPts c (ins m c) ∗ own c outM (OUT (ins m) c) ∗ scratch c ∗ Pipeline.ownSems0 osem c ∗ semVal (barCell c) 0)
        : sProp (MT nD τ sig Unit (Elt F) ℕ UU ℕ)) := by
  rw [scratch_eq]
  unfold Post
  iintro ⟨#Hc, Hdue, Hb, Hp, Hi, Ho, HPa, HCa, HRa, Hrs, Hag⟩
  imod (close_all (PP (ins m)) (MM (ins m)) K c) $$ [Hb Hp] with ⟨Hb, Hs⟩
  · isplitr; · iapply (invs_of_ctx (PP (ins m)) (MM (ins m)) K); iexact Hc
    isplitl [Hb] <;> iassumption
  imodintro
  isplitl [Hdue]; · iexact Hdue
  isplitl [Hi]; · iexact Hi
  isplitl [Ho]; · iexact Ho
  isplitl [HPa HCa HRa Hrs Hag]
  · isplitl [HPa]; · iexact HPa
    isplitl [HCa]; · iexact HCa
    isplitl [HRa]; · iexact HRa
    isplitl [Hrs] <;> iassumption
  isplitl [Hs] <;> iassumption

/-- A run with a frame, its end turned over under an update. -/
theorem close_wp {β : Type} (c : Dev nD) (p : Prog (TpuEff nD τ sig (Elt F) Λ₀ .tc) β) {A Q R Q' : sProp (MT nD τ sig Unit (Elt F) ℕ UU ℕ)}
    (h1 : A ⊢ wp frame (wpE (defs₀ (F := F)) 𝒱₀ (c : Thread nD τ) none) Set.univ p (fun _ => Q))
    (h2 : iprop(R ∗ Q) ⊢ (|={Set.univ}=> Q')) :
    iprop(R ∗ A) ⊢ wp frame (wpE (defs₀ (F := F)) 𝒱₀ (c : Thread nD τ) none) Set.univ p (fun _ => Q') := by
  refine BIBase.Entails.trans ?_ (wp_fupd _ _ _ _ _)
  refine BIBase.Entails.trans ?_ (wp_mono _ _ _ fun _ => h2)
  exact (sep_mono_right h1).trans (wp_frame_l _ _ _)

/-- The body with the context kept to the end. -/
theorem body_closed (K : GSem nD τ sig → ℕ) (c : Dev nD) (R : sProp (MT nD τ sig Unit (Elt F) ℕ UU ℕ)) :
    iprop(R ∗ ctx (PP (ins m)) (MM (ins m)) K ∗ (barReached ∗ ownReached c ∗ barAt c 0 ∗ pos0 c ∗ bigSep Finset.univ (tokItem c)) ∗ creds c ∗ scratch c
        ∗ due c (O₀ c) ∗ insPts c (ins m c) ∗ outAny c)
      ⊢ wp frame (wpE (defs₀ (F := F)) 𝒱₀ (c : Thread nD τ) none) Set.univ (bodyAt0 t0_0)
        (fun _ => iprop(R ∗ due c 0 ∗ insPts c (ins m c) ∗ own c outM (OUT (ins m) c) ∗ scratch c ∗ Pipeline.ownSems0 osem c ∗ semVal (barCell c) 0)) := by
  have h1 := (body_pre m K c).trans (body_spec m K c)
  have h2 : iprop((R ∗ ctx (PP (ins m)) (MM (ins m)) K) ∗ Post c (ins m))
      ⊢ (|={Set.univ}=> (R ∗ due c 0 ∗ insPts c (ins m c) ∗ own c outM (OUT (ins m) c) ∗ scratch c ∗ Pipeline.ownSems0 osem c ∗ semVal (barCell c) 0)
        : sProp (MT nD τ sig Unit (Elt F) ℕ UU ℕ)) := by
    iintro ⟨⟨HR, Hc⟩, HP⟩
    imod (body_post m K c) $$ [Hc HP] with H
    · isplitl [Hc] <;> iassumption
    imodintro
    isplitl [HR] <;> iassumption
  refine BIBase.Entails.trans ?_ (close_wp (F := F) c _ h1 h2)
  iintro ⟨HR, #Hc, H⟩
  isplitl [HR]
  · isplitl [HR]; · iexact HR
    iexact Hc
  isplitr; · iexact Hc
  iexact H

theorem phi_first (c : Dev nD) : (dat m c).Φ t0_0.castSucc = iprop(scratch c ∗ (∃ r, prngReg c r) ∗ opened m c) := rfl
theorem phi_last (c : Dev nD) : (dat m c).Φ t0_0.succ = iprop(scratch c ∗ (∃ r, prngReg c r) ∗ Pipeline.ownSems0 osem c ∗ semVal (barCell c) 0) := rfl

set_option maxRecDepth 16384 in
set_option maxHeartbeats 4000000 in
/-- The staging buffers as the body finds them. -/
theorem take_bufs (c : Dev nD) :
    iprop((∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d))
      ∗ (∃ d, owns (c : Thread nD τ) ((cfg0.win 4).stage (cfg0.slots t0_0 4)) fullShare ((dat m c).before 4 t0_0 d))
      ∗ (∃ d, owns (c : Thread nD τ) ((cfg0.win 5).stage (cfg0.slots t0_0 5)) fullShare ((dat m c).before 5 t0_0 d)))
      ⊢ (iprop(insPts c (ins m c) ∗ outAny c) : sProp (MT nD τ sig Unit (Elt F) ℕ UU ℕ)) := by
  simp only [before_in0, before_in1, before_in2, before_in3, before_in4]
  unfold insPts outAny
  iintro ⟨⟨%d0, H0⟩, ⟨%d1, H1⟩, ⟨%d2, H2⟩, ⟨%d3, H3⟩, ⟨%d4, H4⟩, ⟨%d5, H5⟩⟩
  isplitl [H0 H1 H2 H3 H4]
  · isplitl [H0]; · iapply (Entails.of_eq (owns_whole (c : Thread nD τ) cc0_stg0_0 fullShare (ins m c).x)); iexact H0
    isplitl [H1]; · iapply (Entails.of_eq (owns_whole (c : Thread nD τ) cc0_stg1_0 fullShare (ins m c).wq)); iexact H1
    isplitl [H2]; · iapply (Entails.of_eq (owns_whole (c : Thread nD τ) cc0_stg2_0 fullShare (ins m c).k)); iexact H2
    isplitl [H3]; · iapply (Entails.of_eq (owns_whole (c : Thread nD τ) cc0_stg3_0 fullShare (ins m c).v)); iexact H3
    iapply (Entails.of_eq (owns_whole (c : Thread nD τ) cc0_stg4_0 fullShare (ins m c).wo)); iexact H4
  iexists _
  iapply (Entails.of_eq (owns_whole (c : Thread nD τ) cc0_stg5_0 fullShare _)); iexact H5

set_option maxRecDepth 16384 in
set_option maxHeartbeats 4000000 in
/-- The staging buffers as the body leaves them. -/
theorem give_bufs (c : Dev nD) :
    (iprop(insPts c (ins m c) ∗ own c outM (OUT (ins m) c)) : sProp (MT nD τ sig Unit (Elt F) ℕ UU ℕ))
      ⊢ iprop(owns (c : Thread nD τ) ((cfg0.win 0).stage (cfg0.slots t0_0 0)) fullShare ((dat m c).after 0 t0_0)
      ∗ owns (c : Thread nD τ) ((cfg0.win 1).stage (cfg0.slots t0_0 1)) fullShare ((dat m c).after 1 t0_0)
      ∗ owns (c : Thread nD τ) ((cfg0.win 2).stage (cfg0.slots t0_0 2)) fullShare ((dat m c).after 2 t0_0)
      ∗ owns (c : Thread nD τ) ((cfg0.win 3).stage (cfg0.slots t0_0 3)) fullShare ((dat m c).after 3 t0_0)
      ∗ owns (c : Thread nD τ) ((cfg0.win 4).stage (cfg0.slots t0_0 4)) fullShare ((dat m c).after 4 t0_0)
      ∗ owns (c : Thread nD τ) ((cfg0.win 5).stage (cfg0.slots t0_0 5)) fullShare ((dat m c).after 5 t0_0)) := by
  unfold insPts
  iintro ⟨⟨H0, H1, H2, H3, H4⟩, H5⟩
  isplitl [H0]; · iapply (Entails.of_eq (owns_whole (c : Thread nD τ) cc0_stg0_0 fullShare (ins m c).x).symm); iexact H0
  isplitl [H1]; · iapply (Entails.of_eq (owns_whole (c : Thread nD τ) cc0_stg1_0 fullShare (ins m c).wq).symm); iexact H1
  isplitl [H2]; · iapply (Entails.of_eq (owns_whole (c : Thread nD τ) cc0_stg2_0 fullShare (ins m c).k).symm); iexact H2
  isplitl [H3]; · iapply (Entails.of_eq (owns_whole (c : Thread nD τ) cc0_stg3_0 fullShare (ins m c).v).symm); iexact H3
  isplitl [H4]; · iapply (Entails.of_eq (owns_whole (c : Thread nD τ) cc0_stg4_0 fullShare (ins m c).wo).symm); iexact H4
  iapply (Entails.of_eq (owns_whole (c : Thread nD τ) cc0_stg5_0 fullShare (OUT (ins m) c)).symm); iexact H5

/-- What the body is called with at its one point: the invariant, what is owed, the staging buffers. -/
theorem point_pre (c : Dev nD) :
    iprop((dat m c).Φ t0_0.castSucc ∗ (dat m c).owesAt () t0_0.castSucc ∗ insPts c (ins m c) ∗ outAny c)
      ⊢ (iprop(∃ K, (∃ r, prngReg c r) ∗ ctx (PP (ins m)) (MM (ins m)) K ∗ (barReached ∗ ownReached c ∗ barAt c 0 ∗ pos0 c ∗ bigSep Finset.univ (tokItem c)) ∗ creds c ∗ scratch c
        ∗ due c (O₀ c) ∗ insPts c (ins m c) ∗ outAny c) : sProp (MT nD τ sig Unit (Elt F) ℕ UU ℕ)) := by
  rw [phi_first]
  unfold opened
  iintro ⟨⟨Hs, Hp, ⟨%K, #Hc, HB, HO, Hb, Hp0, Ht⟩, Hcr⟩, Hdue, Hi, Ho⟩
  iexists K
  isplitl [Hp]; · iexact Hp
  isplitr; · iexact Hc
  isplitl [HB HO Hb Hp0 Ht]
  · isplitl [HB]; · iexact HB
    isplitl [HO]; · iexact HO
    isplitl [Hb]; · iexact Hb
    isplitl [Hp0] <;> iassumption
  isplitl [Hcr]; · iexact Hcr
  isplitl [Hs]; · iexact Hs
  isplitl [Hdue]; · iapply (due_of_owesAt m c); iexact Hdue
  isplitl [Hi] <;> iassumption

/-- What it returns with. -/
theorem point_post (c : Dev nD) :
    (iprop((∃ r, prngReg c r) ∗ due c 0 ∗ insPts c (ins m c) ∗ own c outM (OUT (ins m) c) ∗ scratch c ∗ Pipeline.ownSems0 osem c ∗ semVal (barCell c) 0) : sProp (MT nD τ sig Unit (Elt F) ℕ UU ℕ))
      ⊢ iprop((dat m c).Φ t0_0.succ ∗ (dat m c).owesAt () t0_0.succ ∗ insPts c (ins m c) ∗ own c outM (OUT (ins m) c)) := by
  rw [phi_last]
  iintro ⟨Hp, Hdue, Hi, Ho, Hs, Hos, Hb⟩
  isplitl [Hp Hs Hos Hb]
  · isplitl [Hs]; · iexact Hs
    isplitl [Hp]; · iexact Hp
    isplitl [Hos] <;> iassumption
  isplitl [Hdue]; · iapply (owesAt_of_due m c); iexact Hdue
  isplitl [Hi] <;> iassumption

/-- An existential over the start of a run. -/
theorem exists_wp {α β : Type} (c : Dev nD) (p : Prog (TpuEff nD τ sig (Elt F) Λ₀ .tc) β) {A : α → sProp (MT nD τ sig Unit (Elt F) ℕ UU ℕ)}
    {Q : sProp (MT nD τ sig Unit (Elt F) ℕ UU ℕ)}
    (h1 : ∀ K, A K ⊢ wp frame (wpE (defs₀ (F := F)) 𝒱₀ (c : Thread nD τ) none) Set.univ p (fun _ => Q)) :
    iprop(∃ K, A K) ⊢ wp frame (wpE (defs₀ (F := F)) 𝒱₀ (c : Thread nD τ) none) Set.univ p (fun _ => Q) := by
  iintro ⟨%K, H⟩
  iapply (h1 K); iexact H

set_option maxRecDepth 65536 in
set_option maxHeartbeats 4000000 in
theorem body_all (c : Dev nD) :
    (iprop(∃ K, (∃ r, prngReg c r) ∗ ctx (PP (ins m)) (MM (ins m)) K ∗ (barReached ∗ ownReached c ∗ barAt c 0 ∗ pos0 c ∗ bigSep Finset.univ (tokItem c)) ∗ creds c ∗ scratch c
        ∗ due c (O₀ c) ∗ insPts c (ins m c) ∗ outAny c) : sProp (MT nD τ sig Unit (Elt F) ℕ UU ℕ))
      ⊢ wp frame (wpE (defs₀ (F := F)) 𝒱₀ (c : Thread nD τ) none) Set.univ (bodyAt0 t0_0)
        (fun _ => iprop((∃ r, prngReg c r) ∗ due c 0 ∗ insPts c (ins m c) ∗ own c outM (OUT (ins m) c) ∗ scratch c ∗ Pipeline.ownSems0 osem c ∗ semVal (barCell c) 0)) :=
  exists_wp (F := F) c _ fun K => body_closed m K c _

theorem call_eq : defs₀ (F := F) .tc cfg0.body (cfg0.bodyArgs t0_0 (cfg0.slots t0_0)) = bodyAt0 (F := F) t0_0 := by unfold defs₀; rw [Defs.onTc_tc]

set_option maxRecDepth 16384 in
set_option maxHeartbeats 4000000 in
theorem body_ok (c : Dev nD) : BodyObligation (dat m c) (defs₀ (F := F)) 𝒱₀ () Set.univ := fun t => by
  obtain rfl := fin_N0 t
  rw [bigSep_W0, bigSep_W0, call_eq]
  refine triple_restated (body_all m c) rfl ?_ fun _ => (point_post m c).trans ?_
  · exact .trans (sep_mono_right (sep_mono_right (take_bufs m c))) (point_pre m c)
  · exact sep_mono_right (sep_mono_right (give_bufs m c))

/-! ## The region -/

/-- What the region's invariant leaves for the launch's end. -/
def left (c : Dev nD) : sProp (MT nD τ sig Unit (Elt F) ℕ UU ℕ) := semVal (barCell c) 0

theorem open_start (c : Dev nD) : iprop(start m c ∗ Pipeline.ownSems0 osem c ∗ levAts L lv) ⊢ (|={Set.univ}=> opened m c : sProp (MT nD τ sig Unit (Elt F) ℕ UU ℕ)) := by
  unfold start opened
  iintro ⟨⟨⟨%K, #HI, #HB, Hb, Ho, Ht⟩, Hcr⟩, Hs, #Hl⟩
  imod (open_all (PP (ins m)) (MM (ins m)) K c) $$ [Ho Hs] with ⟨Hp, #HO⟩
  · isplitr; · iexact HI
    isplitl [Ho] <;> iassumption
  imodintro
  isplitr [Hcr]
  · iexists K
    isplitr
    · unfold ctx
      isplitr; · iexact HI
      iexact Hl
    isplitr; · iexact HB
    isplitr; · unfold ownReached; iexact HO
    isplitl [Hb]; · iexact Hb
    isplitl [Hp] <;> iassumption
  · iexact Hcr

theorem held_none (c : Dev nD) (V : Valuation τ sig (Elt F)) : (StableHlo.held (c.tc : Thread nD τ) ∅ V : sProp (MT nD τ sig Unit (Elt F) ℕ UU ℕ)) = BI.emp := by
  unfold StableHlo.held; exact BI.bigSep_empty

theorem enter (c : Dev nD) : iprop(Pipeline.scopedRest (Pipeline.pin (pcfgs (F := F)) adm 0).spec c ∗ (∃ r, prngReg c r) ∗ StableHlo.held (c.tc : Thread nD τ) ∅ (V1 m c) ∗ opened m c)
    ⊢ ((dat m c).Φ 0 : sProp (MT nD τ sig Unit (Elt F) ℕ UU ℕ)) := by
  rw [show (Pipeline.scopedRest (Pipeline.pin (pcfgs (F := F)) adm 0).spec c : sProp (MT nD τ sig Unit (Elt F) ℕ UU ℕ)) = scratch c from rfl, held_none, show (dat m c).Φ 0 = iprop(scratch c ∗ (∃ r, prngReg c r) ∗ opened m c) from phi_first m c]
  iintro ⟨Hs, Hp, -, Ho⟩
  isplitl [Hs]; · iexact Hs
  isplitl [Hp] <;> iassumption

theorem leave (c : Dev nD) (V : Valuation τ sig (Elt F)) : ((dat m c).Φ (Fin.last (Pipeline.pin (pcfgs (F := F)) adm 0).N) : sProp (MT nD τ sig Unit (Elt F) ℕ UU ℕ))
    ⊢ iprop(Pipeline.scopedRest (Pipeline.pin (pcfgs (F := F)) adm 0).spec c ∗ (∃ r, prngReg c r) ∗ StableHlo.held (c.tc : Thread nD τ) ∅ V ∗ Pipeline.ownSems0 osem c ∗ left c) := by
  rw [show (Pipeline.scopedRest (Pipeline.pin (pcfgs (F := F)) adm 0).spec c : sProp (MT nD τ sig Unit (Elt F) ℕ UU ℕ)) = scratch c from rfl, held_none, show (dat m c).Φ (Fin.last _) = iprop(scratch c ∗ (∃ r, prngReg c r) ∗ Pipeline.ownSems0 osem c ∗ semVal (barCell c) 0) from phi_last m c]
  unfold left
  iintro ⟨Hs, Hp, Ho, Hb⟩
  isplitl [Hs]; · iexact Hs
  isplitl [Hp]; · iexact Hp
  isplitr; · iempintro
  isplitl [Ho] <;> iassumption

abbrev pdats (m : (ℓ : Loc nD τ sig) → Buf (Elt F) ℓ) : (p : Fin 1) → (c : Dev nD) → Dat τ (Elt F) Unit ℕ UU ℕ (cfgs p) c := fun | 0, c => dat m c

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the region leaves in the one buffer it writes. -/
def outs : Outs (F := F) := fun _ r c => if h : r = main_v20 then h ▸ (OUT (ins m) c : Vec F S32x32x1024 .f32) else m ((c : Thread nD τ).loc r)
theorem outs_v20 (c : Dev nD) : outs m 2 main_v20 c = OUT (ins m) c := dif_pos rfl

theorem above_start (c : Dev nD) : Above 0 (O₀ c) :=
  above_add (above_add (above_oweC3 (by decide) c _) (above_oweC1 (by decide) c _)) (above_oweB (by decide) c _)

theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_start c g i h
  · exact absurd h (Nat.lt_irrefl 0)

theorem lv_stage : ∀ (w : Fin 6) (s : Fin (win0 w).nbuf), lvAt (.dma ((win0 w).sem s)) = 0 := by decide

theorem cut_ok : Pipeline.LevelCutOwed (pcfgs (F := F)) adm (pdats m) () L lv 0 (fun _ => 0) where
  hι c w s := by rw [L_tc]; exact Finset.mem_singleton_self _
  hιb c w s := (lv_stage w s).le
  hD c t g i h := cut_owed m c t g i h

end Cert.KernelIdeal.Talk

end
-- ==== Proof.Ideal.Launch.lean ====
/-
  The launch: every semaphore's invariant allocated, the duties dealt to the devices
  that pay them, the region entered and left, and the run of the whole program.
-/
module

public import proofs.«01_k».proof.Proof.Ideal.Region

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-! ## The region's segment -/

/-- The buffers that are no window's array. -/
abbrev rest : Finset (DevRef τ sig) := Pipeline.ucRefs τ sig \ Pipeline.arrRefs (τ := τ) (pcfgs (F := F) 0).spec

theorem v20_arr : Proc.devRef .tc main_v20 ∈ Pipeline.arrRefs (τ := τ) (pcfgs (F := F) 0).spec :=
  Finset.mem_map.mpr ⟨main_v20, Finset.mem_image.mpr ⟨5, Finset.mem_univ _, rfl⟩, rfl⟩

theorem rest_same (c : Dev nD) (b : DevRef τ sig) (hb : b ∈ rest (F := F) \ ∅) : V2 m (outs m) c b = V1 m c b := by
  have hb' := (Finset.mem_sdiff.mp (Finset.mem_sdiff.mp hb).1).2
  exact Function.update_of_ne (fun e => hb' (by rw [e]; exact v20_arr (F := F))) _ _

theorem arr_first (c : Dev nD) : ∀ w : Fin 6, (pdats m 0 c).arrAt w 0 = V1 m c (Proc.devRef .tc (Pipeline.arrRef (Pipeline.pin (pcfgs (F := F)) adm 0).spec w))
  | 0 => rfl | 1 => rfl | 2 => rfl | 3 => rfl | 4 => rfl | 5 => rfl

theorem arr_last (c : Dev nD) : ∀ w : Fin 6, (pdats m 0 c).arrAt w (Pipeline.pin (pcfgs (F := F)) adm 0).N
    = V2 m (outs m) c (Proc.devRef .tc (Pipeline.arrRef (Pipeline.pin (pcfgs (F := F)) adm 0).spec w))
  | 0 => ((dat m c).arrAt_in 0 rfl _).trans (V2_of m (outs m) c main_v5 (by decide)).symm
  | 1 => ((dat m c).arrAt_in 1 rfl _).trans (V2_of m (outs m) c main_arg1 (by decide)).symm
  | 2 => ((dat m c).arrAt_in 2 rfl _).trans (V2_of m (outs m) c main_v18 (by decide)).symm
  | 3 => ((dat m c).arrAt_in 3 rfl _).trans (V2_of m (outs m) c main_v19 (by decide)).symm
  | 4 => ((dat m c).arrAt_in 4 rfl _).trans (V2_of m (outs m) c main_arg4 (by decide)).symm
  | 5 => (arr_out m c).trans ((outs_v20 m c).symm.trans (Function.update_self (Proc.devRef (τ := τ) .tc main_v20) (outs m 2 main_v20 c) (V1 m c)).symm)

theorem share_full (c : Dev nD) : ∀ w : Fin 6, (pdats m 0 c).share w = fullShare
  | 0 => rfl | 1 => rfl | 2 => rfl | 3 => rfl | 4 => rfl | 5 => rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (rest (F := F)) (Finset.empty_subset _) kitP rfl (fun c => (body_ok m c).loose)
    (fun _ => 0) O₀ (fun c => (owed_first m c).trans (zero_add _).symm) (owed_last m) (fun _ => rfl) (share_full m)
    (V1 m) (V2 m (outs m)) (rest_same m)
    (start m) left (opened m) left (open_start m) (enter m) (fun c => leave m c _)
    (fun c => by iintro H; imodintro; iexact H)
    (fun _ => 0) (cut_ok m) (fun _ => iprop(emp)) (arr_first m) (arr_last m)

/-- What rides beside the buffers before the region, and after it. -/
def E : Fin 2 → Dev nD → sProp (MT nD τ sig Unit (Elt F) ℕ UU ℕ)
  | 0, c => iprop(start m c ∗ (∃ r, prngReg c r) ∗ ∃ W, owes (c : Thread nD τ) (O₀ c) W)
  | 1, c => iprop(semVal (barCell c) 0 ∗ ∃ W, owes (c : Thread nD τ) (0 : CellTallies nD τ sig Unit) W)

theorem arr_sub : Pipeline.arrRefs (τ := τ) (pcfgs (F := F) 0).spec ⊆ Pipeline.ucRefs τ sig :=
  Pipeline.arrRefs_sub_ucRefs _ (by decide : ∀ w, (Pipeline.arrRef spec0 w).isScoped = false)

theorem reg_pre (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (rest (F := F)) (V1 m c) ∗ emp) ∗ start m c ∗ ∃ Wd, owes (c : Thread nD τ) (0 + O₀ c) Wd)
  rw [zero_add, StableHlo.held_sub_split (c := c.tc) (arr_sub (F := F)) (V1 m c)]
  unfold E
  iintro ⟨⟨Ha, Hr⟩, Hs, Hp, HO⟩
  isplitl [Ha]; · iexact Ha
  isplitl [Hp]; · iexact Hp
  isplitl [Hr]
  · isplitl [Hr]; · iexact Hr
    iempintro
  isplitl [Hs] <;> iassumption

theorem reg_post (c : Dev nD) : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (rest (F := F)) (V2 m (outs m) c) ∗ emp) ∗ left c ∗ ∃ Wd, owes (c : Thread nD τ) (0 : CellTallies nD τ sig Unit) Wd) ⊢ _
  rw [StableHlo.held_sub_split (c := c.tc) (arr_sub (F := F)) (V2 m (outs m) c)]
  unfold E left
  iintro ⟨Ha, -, ⟨Hr, -⟩, Hb, HO⟩
  isplitl [Ha Hr]; · isplitl [Ha] <;> iassumption
  isplitl [Hb] <;> iassumption

/-! ## The cells -/

def barEmb : Dev nD ↪ GSem nD τ sig := ⟨fun c => barCell c, fun _ _ h => congrArg (fun g : GSem nD τ sig => g.1.1) h⟩
theorem cell_inj {c c' : Dev nD} {f f' : Fin 4} {i i' : Fin 31} (h : cell c f i = cell c' f' i') : c = c' ∧ f = f' ∧ i = i' :=
  ⟨congrArg (fun g : GSem nD τ sig => g.1.1) h, dsem_inj (SemLoc.dma.inj (congrArg Prod.snd h))⟩
theorem cell_ne_bar (c d : Dev nD) (f : Fin 4) (i : Fin 31) : cell c f i ≠ barCell d := fun h => by
  have e : (SemLoc.dma (dsem f i) : SemLoc sig) = .reg barS := congrArg Prod.snd h
  cases e
def dmaEmb : Dev nD × Fin 4 × Fin 31 ↪ GSem nD τ sig :=
  ⟨fun x => cell x.1 x.2.1 x.2.2, fun x y h => by
    obtain ⟨h1, h2, h3⟩ := cell_inj h
    exact Prod.ext h1 (Prod.ext h2 h3)⟩

/-- The barriers, funded from their counters; the DMA semaphores, funded without theirs. -/
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  exact cell_ne_bar _ _ _ _ h

/-- Every duty: a device's neighbours' at its barrier, one at each of its DMA semaphores. -/
def duty : Dev nD × (Fin 31 ⊕ Fin 4 × Fin 31) → GSem nD τ sig × ℕ × Fin 31
  | (c, .inl j) => (barCell c, 0, j)
  | (c, .inr (f, i)) => (cell c f i, 0, 0)
theorem duty_inj : Function.Injective duty := by
  rintro ⟨c, j | ⟨f, i⟩⟩ ⟨d, k | ⟨f', i'⟩⟩ h
  · exact Prod.ext (congrArg (fun t : GSem nD τ sig × ℕ × Fin 31 => t.1.1.1) h) (congrArg Sum.inl (congrArg (fun t : GSem nD τ sig × ℕ × Fin 31 => t.2.2) h))
  · exact absurd (congrArg Prod.fst h).symm (cell_ne_bar _ _ _ _)
  · exact absurd (congrArg Prod.fst h) (cell_ne_bar _ _ _ _)
  · obtain ⟨h1, h2, h3⟩ := cell_inj (congrArg Prod.fst h)
    exact Prod.ext h1 (congrArg Sum.inr (Prod.ext h2 h3))
def talkToks : Finset (GSem nD τ sig × ℕ × Fin 31) := Finset.univ.map ⟨duty, duty_inj⟩

/-! ## The duties dealt -/

/-- A device and a round, turned to the neighbour of that round and the round that leads back. -/
def turn : Dev nD × Fin 31 ≃ Dev nD × Fin 31 where
  toFun x := (nxt x.1 x.2, rev x.2)
  invFun x := (nxt x.1 x.2, rev x.2)
  left_inv x := Prod.ext (nxt_rev x.1 x.2) (rev_rev x.2)
  right_inv x := Prod.ext (nxt_rev x.1 x.2) (rev_rev x.2)

theorem turned (Φ : Dev nD → Fin 31 → sProp (MT nD τ sig Unit (Elt F) ℕ UU ℕ)) :
    (bigSep Finset.univ fun c => bigSep Finset.univ fun i => Φ c i) = bigSep Finset.univ fun c => bigSep Finset.univ fun i => Φ (nxt c i) (rev i) := by
  rw [← bigSep_univ_prod (fun x : Dev nD × Fin 31 => Φ x.1 x.2), bigSep_univ_equiv turn, bigSep_univ_prod]; rfl

theorem items_eq (c : Dev nD) : (bigSep Finset.univ (tokItem c) : sProp (MT nD τ sig Unit (Elt F) ℕ UU ℕ))
    = iprop((bigSep Finset.univ fun i => dutyTok ER (barCell (nxt c i)) 0 (rev i)) ∗ (bigSep Finset.univ fun i => dutyTok ER (cell c 0 i) 0 0)
      ∗ (bigSep Finset.univ fun i => dutyTok ER (cell (nxt c i) 1 (rev i)) 0 0) ∗ (bigSep Finset.univ fun i => dutyTok ER (cell c 2 i) 0 0)
      ∗ (bigSep Finset.univ fun i => dutyTok ER (cell (nxt c i) 3 (rev i)) 0 0)) := by
  rw [← bigSep_sep', ← bigSep_sep', ← bigSep_sep', ← bigSep_sep']; rfl

theorem toks_dealt : (bigSep talkToks (fun x => dutyTok ER x.1 x.2.1 x.2.2) : sProp (MT nD τ sig Unit (Elt F) ℕ UU ℕ))
    = bigSep Finset.univ fun c : Dev nD => bigSep Finset.univ (tokItem c) := by
  unfold talkToks
  rw [bigSep_map, bigSep_univ_prod, bigSep_congr (s := Finset.univ) fun (c : Dev nD) _ => items_eq (F := F) c, bigSep_sep', bigSep_sep', bigSep_sep', bigSep_sep',
    ← turned (fun c i => dutyTok ER (barCell c) 0 i), ← turned (fun c i => dutyTok ER (cell c 1 i) 0 0), ← turned (fun c i => dutyTok ER (cell c 3 i) 0 0),
    ← bigSep_sep', ← bigSep_sep', ← bigSep_sep', ← bigSep_sep']
  refine bigSep_congr fun c _ => ?_
  rw [bigSep_univ_sum, bigSep_univ_prod (α := Fin 4) (β := Fin 31), four]
  rfl

/-! ## The launch credit -/

theorem sum_at (S : Finset (Fin 31)) (T : Fin 31 → CellTallies nD τ sig Unit) (g : GSem nD τ sig) (u : Unit) : (∑ i ∈ S, T i) g u = ∑ i ∈ S, T i g u := by
  rw [Finset.sum_apply, Finsupp.finset_sum_apply]

theorem nxt_iff (c d : Dev nD) (i : Fin 31) : nxt d i = c ↔ d = nxt c (rev i) :=
  ⟨fun h => by rw [← h, nxt_rev], fun h => by rw [h, nxt_rev']⟩

theorem oweB_bar (d c : Dev nD) : oweB d Finset.univ (barCell c) () = ∑ i : Fin 31, if d = nxt c (rev i) then 1 else 0 := by
  unfold oweB; rw [sum_at]
  refine Finset.sum_congr rfl fun i _ => ?_
  rw [tallyAt_apply]
  refine if_congr ⟨fun h => (nxt_iff c d i).mp (congrArg (fun g : GSem nD τ sig => g.1.1) h.1).symm, fun h => ⟨?_, rfl⟩⟩ rfl rfl
  rw [(nxt_iff c d i).mpr h]
theorem oweB_cell (d c : Dev nD) (f : Fin 4) (i : Fin 31) : oweB d Finset.univ (cell c f i) () = 0 := by
  unfold oweB; rw [sum_at]
  refine Finset.sum_eq_zero fun j _ => ?_
  rw [tallyAt_ne_cell (cell_ne_bar _ _ _ _)]; rfl
theorem oweC_bar (d c : Dev nD) (f : Fin 4) : oweC d f Finset.univ (barCell c) () = 0 := by
  unfold oweC; rw [sum_at]
  refine Finset.sum_eq_zero fun j _ => ?_
  rw [tallyAt_ne_cell (cell_ne_bar _ _ _ _).symm]; rfl
theorem oweC_other (d c : Dev nD) {f f' : Fin 4} (hf : f ≠ f') (i : Fin 31) : oweC d f Finset.univ (cell c f' i) () = 0 := by
  unfold oweC; rw [sum_at]
  refine Finset.sum_eq_zero fun j _ => ?_
  rw [tallyAt_ne_cell (fun h => hf (cell_inj h).2.1.symm)]; rfl
theorem oweC_cell (d c : Dev nD) (f : Fin 4) (i : Fin 31) : oweC d f Finset.univ (cell c f i) () = if d = nxt c i then N else 0 := by
  unfold oweC; rw [sum_at, Finset.sum_eq_single (rev i)]
  · rw [tallyAt_apply, rev_rev]
    refine if_congr ⟨fun h => ?_, fun h => ⟨?_, rfl⟩⟩ rfl rfl
    · have := (nxt_iff c d (rev i)).mp (cell_inj h.1).1.symm; rwa [rev_rev] at this
    · rw [(nxt_iff c d (rev i)).mpr (by rw [rev_rev]; exact h)]
  · intro j _ hj
    rw [tallyAt_apply, if_neg]
    rintro ⟨h, -⟩
    exact hj (by rw [← rev_rev j, ← (cell_inj h).2.2])
  · intro h; exact absurd (Finset.mem_univ _) h

theorem credit_bar (c : Dev nD) : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h : ∀ d : Dev nD, O₀ d (barCell c) () = ∑ i : Fin 31, if d = nxt c (rev i) then 1 else 0 := fun d => by
    unfold O₀; rw [Pi.add_apply, Pi.add_apply, Finsupp.add_apply, Finsupp.add_apply, oweC_bar, oweC_bar, oweB_bar, zero_add, zero_add]
  rw [Finset.sum_congr rfl fun d _ => h d, Finset.sum_comm, Finset.sum_congr rfl fun i _ => Finset.sum_ite_eq' Finset.univ (nxt c (rev i)) fun _ => 1,
    Finset.sum_congr rfl fun i _ => if_pos (Finset.mem_univ (nxt c (rev i)))]
  rfl

theorem credit_cell (c : Dev nD) {f : Fin 4} (hf : f = 1 ∨ f = 3) (i : Fin 31) :
    tallyOn (cell c f i) (launchCredit (Pipeline.owing O₀) 0 (cell c f i)) = (tallyAt (cell c f i) () N : CellTallies nD τ sig Unit) := by
  unfold tallyAt; refine congrArg _ (Finsupp.ext fun u => ?_); cases u
  rw [Pipeline.launchCredit_owing, Finsupp.single_eq_same]
  have h : ∀ d : Dev nD, O₀ d (cell c f i) () = if d = nxt c i then N else 0 := fun d => by
    unfold O₀; rw [Pi.add_apply, Pi.add_apply, Finsupp.add_apply, Finsupp.add_apply, oweB_cell]
    rcases hf with rfl | rfl
    · rw [oweC_other d c (by decide), oweC_cell, zero_add, add_zero]
    · rw [oweC_cell, oweC_other d c (by decide), add_zero, add_zero]
  rw [Finset.sum_congr rfl fun d _ => h d, Finset.sum_ite_eq' Finset.univ (nxt c i) fun _ => N, if_pos (Finset.mem_univ _)]

def arrEmb : Fin 2 × Fin 31 ↪ SemLoc sig :=
  ⟨fun k => .dma (dsem (if k.1 = 0 then 1 else 3) k.2), fun x y h => by
    obtain ⟨h1, h2⟩ := dsem_inj (SemLoc.dma.inj h)
    refine Prod.ext ?_ h2
    revert h1; generalize x.1 = a; generalize y.1 = b; revert a b; decide⟩

theorem creds_of_launch (c : Dev nD) : (Pipeline.launchCred O₀ c : sProp (MT nD τ sig Unit (Elt F) ℕ UU ℕ)) ⊢ creds c := by
  unfold Pipeline.launchCred creds barCred crd
  rw [bigSep_univ_at _ (SemLoc.reg barS), credit_bar]
  refine sep_mono_right ?_
  have hs : (Finset.univ.map arrEmb : Finset (SemLoc sig)) ⊆ Finset.univ.erase (SemLoc.reg barS) := fun s hs => by
    obtain ⟨k, -, rfl⟩ := Finset.mem_map.mp hs
    exact Finset.mem_erase.mpr ⟨fun h => (by
      have e : (SemLoc.dma (dsem (if k.1 = 0 then 1 else 3) k.2) : SemLoc sig) = .reg barS := h
      cases e), Finset.mem_univ _⟩
  have h2 : (bigSep (Finset.univ.map arrEmb) fun sm : SemLoc sig => cred (tallyOn ((c : Thread nD τ), sm) (launchCredit (Pipeline.owing O₀) 0 ((c : Thread nD τ), sm))))
      = (iprop((bigSep Finset.univ fun i => cred (tallyAt (cell c 1 i) () N)) ∗ bigSep Finset.univ fun i => cred (tallyAt (cell c 3 i) () N))
        : sProp (MT nD τ sig Unit (Elt F) ℕ UU ℕ)) := by
    rw [bigSep_map, bigSep_univ_prod, BI.bigSep_fin_two]
    exact congr (congrArg _ (bigSep_congr fun i _ => congrArg cred (credit_cell c (Or.inl rfl) i)))
      (bigSep_congr fun i _ => congrArg cred (credit_cell c (Or.inr rfl) i))
  rw [← h2]
  exact bigSep_subset hs

end Cert.KernelIdeal.Talk

end
-- ==== Proof.Ideal.Run.lean ====
/-
  The run of the whole program: it ends, every argument as it was, every semaphore at
  zero, and the result the rows the region leaves.
-/
module

public import proofs.«01_k».proof.Proof.Ideal.Launch

@[expose] public section

noncomputable section

namespace Cert.KernelIdeal.Talk

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ) (ρ : Dev nD → PrngReg)

/-! ## The first state -/

/-- The launch element: the pipeline's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells dmaCells talkToks)

/-- A resource kept whole on one device. -/
def onDev (c₀ : Dev nD) (X : sProp (MT nD τ sig Unit (Elt F) ℕ UU ℕ)) (c : Dev nD) : sProp (MT nD τ sig Unit (Elt F) ℕ UU ℕ) := if c = c₀ then X else iprop(emp)
theorem all_onDev (c₀ : Dev nD) (X : sProp (MT nD τ sig Unit (Elt F) ℕ UU ℕ)) : bigSep Finset.univ (onDev c₀ X) = X := by
  rw [bigSep_univ_at _ c₀, bigSep_congr (s := Finset.univ.erase c₀) (Ψ := fun _ => (BI.emp : sProp (MT nD τ sig Unit (Elt F) ℕ UU ℕ)))
      fun c hc => by unfold onDev; rw [if_neg (Finset.ne_of_mem_erase hc)]; rfl, BI.bigSep_emp_const]
  unfold onDev; rw [if_pos rfl]
  exact BI.equiv_iff.mp sep_emp

def G : Dev nD → sProp (MT nD τ sig Unit (Elt F) ℕ UU ℕ) := onDev 0 (BI.own (ER (launchOf barCells dmaCells talkToks)))

/-- What every device may consult. -/
def records (K : GSem nD τ sig → ℕ) : sProp (MT nD τ sig Unit (Elt F) ℕ UU ℕ) := iprop(invs (PP (ins m)) (MM (ins m)) K ∗ barReached)
instance records_persistent (K : GSem nD τ sig → ℕ) : BI.Persistent (records m K) := by unfold records; infer_instance

/-- What stays with one device. -/
def mine (c : Dev nD) : sProp (MT nD τ sig Unit (Elt F) ℕ UU ℕ) :=
  iprop(barAt c 0 ∗ (bigSep Finset.univ fun k : Fin 4 × Fin 31 => openTok ER (cell c k.1 k.2)) ∗ bigSep Finset.univ (tokItem c))
def bundle (c : Dev nD) : sProp (MT nD τ sig Unit (Elt F) ℕ UU ℕ) :=
  iprop(StableHlo.held (c : Thread nD τ) (Pipeline.ucRefs τ sig) (V0 m c) ∗ creds c ∗ owes (c : Thread nD τ) (O₀ c) ∅ ∗ ∃ r, prngReg c r)

theorem first_state (K : GSem nD τ sig → ℕ) (c : Dev nD) :
    iprop(records m K ∗ (mine c ∗ bundle m c)) ⊢ iprop(StableHlo.held (c : Thread nD τ) (Pipeline.ucRefs τ sig) (V0 m c) ∗ E m 0 c) := by
  unfold records mine bundle E start
  iintro ⟨⟨#HI, #HB⟩, ⟨Hb, Ho, Ht⟩, Hh, Hcr, HO, Hp⟩
  isplitl [Hh]; · iexact Hh
  isplitr [Hp HO]
  · isplitr [Hcr]
    · iexists K
      isplitr; · iexact HI
      isplitr; · iexact HB
      isplitl [Hb]; · iexact Hb
      isplitl [Ho] <;> iassumption
    · iexact Hcr
  isplitl [Hp]; · iexact Hp
  iexists ∅; iexact HO

theorem sems_here (c : Dev nD) : (unscopedSems0 c : sProp (MT nD τ sig Unit (Elt F) ℕ UU ℕ)) = semVal (barCell c) 0 := by
  unfold unscopedSems0
  rw [show (Finset.univ.filter fun sm : SemLoc sig => ¬ sm.isScoped .tc) = {SemLoc.reg barS} from by decide, BI.bigSep_singleton]

theorem core_split (c : Dev nD) : iprop(unscopedBufs c (fun b => m ((c.tc : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp (MT nD τ sig Unit (Elt F) ℕ UU ℕ)) := by
  rw [← Pipeline.unscopedBufs_held (Ix := Unit) (Name := ℕ) (U := UU) (Lvl := ℕ) c (V0 m c) |>.symm, sems_here]
  unfold bundle
  iintro ⟨Hh, Hus, HO, Hcr, Hp, HG⟩
  ihave Hc := (creds_of_launch (F := F) c) $$ Hcr
  isplitr [Hus HG]
  · isplitl [Hh]; · iexact Hh
    isplitl [Hc]; · iexact Hc
    isplitl [HO]; · iexact HO
    iexists (ρ c); iexact Hp
  isplitl [Hus] <;> iassumption

theorem invs_dealt (K : GSem nD τ sig → ℕ) (P : Dev nD → Vec F S32x32x1024 .bf16) (M : Dev nD → Vec F S32x1024 .bf16) :
    (bigSep (barCells ∪ dmaCells) fun g => cellInv ER (talkRd P M) (K g) g : sProp (MT nD τ sig Unit (Elt F) ℕ UU ℕ)) = invs P M K := by
  rw [bigSep_union cells_disjoint, bigSep_map, bigSep_map]; rfl

theorem opens_dealt : (bigSep dmaCells fun g => openTok ER g : sProp (MT nD τ sig Unit (Elt F) ℕ UU ℕ))
    = bigSep Finset.univ fun c : Dev nD => bigSep Finset.univ fun k : Fin 4 × Fin 31 => openTok ER (cell c k.1 k.2) := by
  rw [bigSep_map, bigSep_univ_prod]; rfl

theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c : Dev nD => iprop(StableHlo.held (c : Thread nD τ) (Pipeline.ucRefs τ sig) (V0 m c) ∗ E m 0 c))
        : sProp (MT nD τ sig Unit (Elt F) ℕ UU ℕ)) := by
  have hv : bigSep Finset.univ (fun c : Dev nD => (semVal (barCell c) 0 : sProp (MT nD τ sig Unit (Elt F) ℕ UU ℕ))) ⊢ bigSep barCells (fun g => (semVal g 0 : sProp (MT nD τ sig Unit (Elt F) ℕ UU ℕ))) :=
    Entails.of_eq (bigSep_map (s := Finset.univ) barEmb (Φ := fun g : GSem nD τ sig => (semVal g 0 : sProp (MT nD τ sig Unit (Elt F) ℕ UU ℕ)))).symm
  have hat : bigSep barCells (fun g => (atPos ER g 0 ∅ 0 : sProp (MT nD τ sig Unit (Elt F) ℕ UU ℕ))) ⊢ bigSep Finset.univ (fun c : Dev nD => barAt c 0) :=
    Entails.of_eq (bigSep_map (s := Finset.univ) barEmb (Φ := fun g : GSem nD τ sig => (atPos ER g 0 ∅ 0 : sProp (MT nD τ sig Unit (Elt F) ℕ UU ℕ))))
  have hr : bigSep barCells (fun g => (reached ER g 0 : sProp (MT nD τ sig Unit (Elt F) ℕ UU ℕ))) ⊢ barReached :=
    Entails.of_eq (bigSep_map (s := Finset.univ) barEmb (Φ := fun g : GSem nD τ sig => (reached ER g 0 : sProp (MT nD τ sig Unit (Elt F) ℕ UU ℕ))))
  iintro ⟨H, -⟩
  ihave H' := (show (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp (MT nD τ sig Unit (Elt F) ℕ UU ℕ))
    from bigSep_mono fun c _ => core_split m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells dmaCells talkToks)) from
    Entails.of_eq (all_onDev (F := F) 0 (BI.own (ER (launchOf barCells dmaCells talkToks))))) $$ HG
  imod (Rounds.fund_launch ER (talkRd (PP (ins m)) (MM (ins m))) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ bundle m c)) fun c _ => first_state m κ c)
  isplitr
  · unfold records
    isplitr; · iapply (Entails.of_eq (invs_dealt κ (PP (ins m)) (MM (ins m)))); iexact Hinv
    iapply hr $$ Hr
  iapply (Entails.of_eq (bigSep_sep' _ _ _).symm)
  isplitr [HB]
  · unfold mine
    iapply (Entails.of_eq (bigSep_sep' _ _ _).symm); isplitl [Hat]; · iapply hat $$ Hat
    iapply (Entails.of_eq (bigSep_sep' _ _ _).symm); isplitl [Hopen]; · iapply (Entails.of_eq (opens_dealt (F := F))) $$ Hopen
    iapply (Entails.of_eq (toks_dealt (F := F))) $$ Htok
  · iexact HB

/-! ## The run -/

theorem unscoped_bar : ∀ sm : SemLoc sig, sm.isScoped .tc = false → sm = .reg barS := by decide

/-- What the end shows of one device. -/
def Shows (c : Dev nD) (s : MemSt nD τ sig (Elt F)) : Prop :=
  s.mem ((c.tc : Thread nD τ).loc main_v21) = V3 m (outs m) c main_v21
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem last_state (c : Dev nD) (s' : Phys nD τ sig (Elt F)) :
    iprop((StableHlo.held (c : Thread nD τ) (Pipeline.ucRefs τ sig) (V3 m (outs m) c) ∗ semVal (barCell c) 0) ∗ SI s')
      ⊢ (|={Set.univ}=> (⌜Shows m c s'.mem ∧ s'.mem.sem (barCell c) = 0⌝ ∗ SI s') : sProp (MT nD τ sig Unit (Elt F) ℕ UU ℕ)) := by
  unfold StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h (Proc.devRef .tc main_v21) (Finset.mem_filter.mpr ⟨StableHlo.devRef_mem_tcRefs main_v21, by decide⟩),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩, by simpa using hb⟩
  · iexact HSI

set_option backward.isDefEq.respectTransparency.types false in
/-- From any memory with zero counters every run of the program ends, showing on each device the rows the region left and the
    arguments as they were, every semaphore at zero. -/
theorem run_main : θ_run defs (onTc (τ := τ) (main (F := F))) ⟨m, fun _ => 0, ρ⟩ (fun r => (∀ c : Dev nD, Shows m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg0 m))
    (fun c Q => by
      rewrite [main_chain c, Seg.run_eq_chain,
        show (segs m (outs m) 𝒱₀ L lv (E m) () (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := init m ρ) (QY := fun c s => Shows m c s ∧ s.sem (barCell c) = 0) (hfin := last_state m)
    (hQ := fun s h hs => ⟨fun c => (h c).1, sem_eq_zero hs fun c sm hsm => by
      obtain rfl := unscoped_bar sm hsm
      exact (h c).2⟩)
  · unfold u₀ G
    iintro Hu
    ihave H := (ownU_pair _ _) $$ Hu
    icases H with ⟨HP, HX⟩
    imodintro
    isplitl [HP]; · iexact HP
    rw [all_onDev]; iexact HX
  · show iprop(StableHlo.held (c : Thread nD τ) (Pipeline.ucRefs τ sig) (V3 m (outs m) c) ∗ E m 1 c)
      ⊢ iprop((StableHlo.held (c : Thread nD τ) (Pipeline.ucRefs τ sig) (V3 m (outs m) c) ∗ semVal (barCell c) 0) ∗ ∃ W, owes (c : Thread nD τ) (0 : CellTallies nD τ sig Unit) W)
    unfold E
    iintro ⟨Hh, Hb, HO⟩
    isplitr [HO]
    · isplitl [Hh] <;> iassumption
    · iexact HO

end Cert.KernelIdeal.Talk

end
-- ==== Proof.Frames.lean ====
/-
  The three programs end, each leaving its arguments as they were and every semaphore at zero.
-/
module

public import proofs.«01_k».proof.Defs
public import proofs.«01_k».proof.Proof.Run
public import proofs.«01_k».proof.Proof.Ideal.Run
public import proofs.«01_k».proof.Proof.Gen.ReferenceIdeal.Run
public import Idealize.ShloMosaic.Lib.Quiescent

@[expose] public section

noncomputable section

namespace Cert.Proof

open Idealize.ShloMosaic Idealize.SL.Sem

/-- The kernel on bit patterns ends quietly with its arguments unchanged. -/
theorem quiet_kernel : Cert.quiescent_Kernel (hKernel := Cert.Kernel.Gen.facts) := fun m g _ =>
  (θ_run Cert.Kernel.defs _ _).mono (fun _ h => ⟨fun c => (h.1 c).2, h.2⟩) (Cert.Kernel.Talk.run_main m g)

/-- The kernel over the extended reals ends quietly with its arguments unchanged. -/
theorem quiet_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Talk.run_main m g)

/-- The reference ends quietly with its arguments unchanged: it has no semaphores. -/
theorem quiet_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

end Cert.Proof

end
-- ==== Proof.Attn.lean ====
/-
  Sliding-window attention over the extended reals: one head's weights and context, and
  two facts about sums that the two programs' orders of work need.
-/
module

public import Idealize.ShloMosaic.Lib.Pointwise
public import Idealize.ShloMosaic.Lib.Routing.OpsOrder

@[expose] public section

noncomputable section

namespace Cert.Attn

open Idealize.ShloMosaic

/-- Whether row `i` sees key `j`, as a bit. -/
def seen (i j : Fin 1024) : BitVec 1 := IntOp.cmpi .sle (IntOp.absi (IntOp.subi (BitVec.ofNat 32 i.val) (BitVec.ofNat 32 j.val))) 128#32

/-- The scores' scale. -/
def scale : EReal := Ideal.ofBits .f32 1035273459#32

/-- The masked scores of one head: `q` its queries, `k` its keys. -/
def score (q k : Fin 1024 → Fin 128 → EReal) (i j : Fin 1024) : EReal :=
  Scalar.select (seen i j) ((∑ t, q i t * k j t) * scale) (Ideal.ofBits .f32 3463342888#32)

/-- The exponentials of one row's scores less the greatest. -/
def expo (s : Fin 1024 → EReal) (j : Fin 1024) : EReal :=
  Ideal.exp (s j - Finset.fold max (Ideal.ofBits .f32 4286578688#32) (fun t => s t) Finset.univ)

/-- One row's weights. -/
def weight (s : Fin 1024 → EReal) (j : Fin 1024) : EReal := Ideal.div (expo s j) (∑ t, expo s t)

/-- One head's context. -/
def head (q k v : Fin 1024 → Fin 128 → EReal) (i : Fin 1024) (d : Fin 128) : EReal :=
  ∑ j, weight (score q k i) j * v j d

/-- Every row sees its own key. -/
theorem seen_self (i : Fin 1024) : seen i i = 1#1 := by
  unfold seen IntOp.subi
  rw [BitVec.sub_self]
  decide

/-- The scale, as the fraction its bits stand for. -/
theorem scale_eq : scale = ((11863283 / 134217728 : ℝ) : EReal) := by
  unfold scale
  simp [Ideal.ofBits, Ideal.ieee, -EReal.coe_mul]; norm_num

/-- The scale is not negative. -/
theorem scale_pos : 0 ≤ scale := by
  rw [scale_eq]; exact EReal.coe_nonneg.mpr (by norm_num)

/-- The scale is finite. -/
theorem scale_fin : scale ≠ ⊤ := by
  rw [scale_eq]; exact EReal.coe_ne_top _

/-- A product with the scale may be taken before or after the sum. -/
theorem sum_scale {ι : Type} (s : Finset ι) (f : ι → EReal) : (∑ t ∈ s, f t) * scale = ∑ t ∈ s, f t * scale := by
  classical
  induction s using Finset.induction_on with
  | empty => simp
  | insert a s ha ih =>
    rw [Finset.sum_insert ha, Finset.sum_insert ha, ← ih]
    exact EReal.right_distrib_of_nonneg_of_ne_top scale_pos scale_fin _ _

/-- A sum over all columns is the sum over the blocks of the sums over a block's columns. -/
theorem sum_blocks (f : Fin 32768 → EReal) :
    ∑ t, f t = ∑ b : Fin 32, ∑ k : Fin 1024, f ⟨b.val * 1024 + k.val, by omega⟩ := by
  rw [← Fintype.sum_prod_type' (f := fun (b : Fin 32) (k : Fin 1024) => f ⟨b.val * 1024 + k.val, by omega⟩)]
  refine (Fintype.sum_equiv (finProdFinEquiv (m := 32) (n := 1024)) _ _ fun p => ?_).symm
  congr 1
  apply Fin.ext
  show p.1.val * 1024 + p.2.val = p.2.val + 1024 * p.1.val
  omega

end Cert.Attn

end
-- ==== Proof.RefValue.lean ====
/-
  What the reference computes, element by element: projection, masked scores, weights,
  context and output projection, each read at an index over the extended reals.
-/
module

public import proofs.«01_k».proof.Proof.Gen.ReferenceIdeal.Run
public import proofs.«01_k».proof.Proof.Attn

@[expose] public section

noncomputable section

namespace Cert.ReferenceIdeal.Stages

open Cert.ReferenceIdeal Cert.ReferenceIdeal.Gen Cert.ReferenceIdeal.Value
open Idealize.ShloMosaic Idealize.ShloMosaic.TcCoe Idealize.SL.Sem

/-- The projected queries, one head per third coordinate. -/
def queries (x : FVec Ideal S1x1024x1024 .bf16) (wq : FVec Ideal S1024x32768 .bf16) : FVec Ideal S1x1024x256x128 .bf16 :=
  shapeCast _ (truncf .bf16 (Host.dotGeneral dot_S1x1024x1024_S1024x32768_S1x1024x32768_2_0_01_1_n_n none x wq : FVec Ideal S1x1024x32768 .f32) bitsLt_bf16_f32) shapeCasts_S1x1024x32768_S1x1024x256x128

/-- Which keys a row sees. -/
def near : IVec S1024x1024 1 :=
  cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))

/-- Which rows see a key at all. -/
def keep : IVec S1024 1 := Host.reduce IntOp.ori near (constantI S_ 1 0#1) reducesTo_S1024x1024_S1024_d1 h_S_

/-- The scaled scores, those of unseen keys replaced by the mask's constant. -/
def scores (q k : FVec Ideal S1x1024x256x128 .bf16) : FVec Ideal S1x256x1024x1024 .f32 :=
  select (broadcastInDim S1x256x1024x1024 ![0, 1, 2, 3] bcast_S1x1x1024x1024_S1x256x1024x1024_0_1_2_3 (broadcastInDim S1x1x1024x1024 ![2, 3] bcast_S1024x1024_S1x1x1024x1024_2_3 near))
    (mulf (extf .f32 (truncf .bf16 (Host.dotGeneral dot_S1x1024x256x128_S1x1024x256x128_S1x256x1024x1024_3_3_1_1_02_02 none q k : FVec Ideal S1x256x1024x1024 .f32) bitsLt_bf16_f32) bitsLt_bf16_f32) (broadcastInDim S1x256x1024x1024 ![] bcast_S_S1x256x1024x1024 (constant S_ .f32 0x3DB504F3#32)))
    (broadcastInDim S1x256x1024x1024 ![] bcast_S_S1x256x1024x1024 (id (constant S_ .f32 0xCE6E6B28#32)))

/-- The exponentials of the scores less their row's greatest. -/
def exps (s : FVec Ideal S1x256x1024x1024 .f32) : FVec Ideal S1x256x1024x1024 .f32 :=
  Host.exp (subf s (broadcastInDim S1x256x1024x1024 ![0, 1, 2, 3] bcast_S1x256x1024x1_S1x256x1024x1024_0_1_2_3 (broadcastInDim S1x256x1024x1 ![0, 1, 2] bcast_S1x256x1024_S1x256x1024x1_0_1_2 (Host.reduce FloatOps.maximumf s (constant S_ .f32 0xFF800000#32) reducesTo_S1x256x1024x1024_S1x256x1024_d3 h_S_))))

/-- The weights. -/
def weights (e : FVec Ideal S1x256x1024x1024 .f32) : FVec Ideal S1x256x1024x1024 .f32 :=
  select (broadcastInDim S1x256x1024x1024 ![0, 1, 2, 3] bcast_S1x1x1024x1_S1x256x1024x1024_0_1_2_3 (broadcastInDim S1x1x1024x1 ![2] bcast_S1024_S1x1x1024x1_2 keep))
    (Host.divf e (broadcastInDim S1x256x1024x1024 ![0, 1, 2, 3] bcast_S1x256x1024x1_S1x256x1024x1024_0_1_2_3
      (select (broadcastInDim S1x256x1024x1 ![0, 1, 2, 3] bcast_S1x1x1024x1_S1x256x1024x1_0_1_2_3 (broadcastInDim S1x1x1024x1 ![2] bcast_S1024_S1x1x1024x1_2 keep))
        (broadcastInDim S1x256x1024x1 ![0, 1, 2] bcast_S1x256x1024_S1x256x1024x1_0_1_2 (Host.reduceAdd e (constant S_ .f32 0x00000000#32) reducesTo_S1x256x1024x1024_S1x256x1024_d3 h_S_))
        (broadcastInDim S1x256x1024x1 ![] bcast_S_S1x256x1024x1 (id (constant S_ .f32 0x3F800000#32))))))
    (broadcastInDim S1x256x1024x1024 ![] bcast_S_S1x256x1024x1024 (id (constant S_ .f32 0x00000000#32)))

/-- The context rows, all heads side by side. -/
def context (v : FVec Ideal S1x1024x256x128 .bf16) (p : FVec Ideal S1x256x1024x1024 .f32) : FVec Ideal S1x1024x32768 .f32 :=
  shapeCast _ (transpose S1x1024x256x128 [0, 3, 1, 2] (Host.dotGeneral dot_S1x1024x256x128_S1x256x1024x1024_S1x256x128x1024_1_3_3_2_02_01 none v p : FVec Ideal S1x256x128x1024 .f32) transposes_S1x256x128x1024_S1x1024x256x128_0_3_1_2) shapeCasts_S1x1024x256x128_S1x1024x32768

/-- The result. -/
def result (c : FVec Ideal S1x1024x32768 .f32) (wo : FVec Ideal S32768x1024 .bf16) : FVec Ideal S1x1024x1024 .f32 :=
  Host.dotGeneral dot_S1x1024x32768_S32768x1024_S1x1024x1024_2_0_01_1_n_n none c wo

/-! ## Read at an index -/

/-- A query is a row of the input times a column of the projection. -/
theorem queries_at (x : FVec Ideal S1x1024x1024 .bf16) (wq : FVec Ideal S1024x32768 .bf16) (i : Fin 1024) (h : Fin 256) (d : Fin 128) :
    queries x wq (ix4 0 i h d) = ∑ t : Fin 1024, x (ix3 0 i t) * wq (ix2 t ⟨h.val * 128 + d.val, by omega⟩) := by
  pointwise [queries]

/-- The mask at a pair of positions says whether the one sees the other. -/
theorem near_at (i j : Fin 1024) : near (ix2 i j) = Attn.seen i j := by
  pointwise [near, Attn.seen]

/-- Every row sees a key. -/
theorem keep_at (i : Fin 1024) : keep (ix1 i) = 1#1 := by
  pointwise [keep]
  rw [Routing.fold_ori]
  exact ⟨i, Finset.mem_univ i, (near_at i i).trans (Attn.seen_self i)⟩

/-- A score is the masked, scaled product of a query with a key. -/
theorem scores_at (q k : FVec Ideal S1x1024x256x128 .bf16) (h : Fin 256) (i j : Fin 1024) :
    scores q k (ix4 0 h i j) = Attn.score (fun a d => q (ix4 0 a h d)) (fun a d => k (ix4 0 a h d)) i j := by
  pointwise [scores, near_at, Attn.score, Attn.scale]
  rfl

/-- An exponential is taken of a score less its row's largest. -/
theorem exps_at (s : FVec Ideal S1x256x1024x1024 .f32) (h : Fin 256) (i j : Fin 1024) :
    exps s (ix4 0 h i j) = Attn.expo (fun t => s (ix4 0 h i t)) j := by
  pointwise [exps, Attn.expo]

/-- A weight is an exponential over its row's sum. -/
theorem weights_at (e : FVec Ideal S1x256x1024x1024 .f32) (h : Fin 256) (i j : Fin 1024) :
    weights e (ix4 0 h i j) = Ideal.div (e (ix4 0 h i j)) (∑ t, e (ix4 0 h i t)) := by
  pointwise [weights, keep_at]

/-- A context entry is a row of weights times a column of values. -/
theorem context_at (v : FVec Ideal S1x1024x256x128 .bf16) (p : FVec Ideal S1x256x1024x1024 .f32) (i : Fin 1024) (k : Fin 32768) :
    context v p (ix3 0 i k) = ∑ j : Fin 1024, v (ix4 0 j ⟨k.val / 128, by omega⟩ ⟨k.val % 128, by omega⟩) * p (ix4 0 ⟨k.val / 128, by omega⟩ i j) := by
  pointwise [context]

/-- A result is a row of the context times a column of the output projection. -/
theorem result_at (c : FVec Ideal S1x1024x32768 .f32) (wo : FVec Ideal S32768x1024 .bf16) (i n : Fin 1024) :
    result c wo (ix3 0 i n) = ∑ t : Fin 32768, c (ix3 0 i t) * wo (ix2 t n) := by
  pointwise [result]

/-- The reference's result: the context rows of all 256 heads against the output projection. -/
theorem value_at (x : FVec Ideal S1x1024x1024 .bf16) (wq : FVec Ideal S1024x32768 .bf16) (k v : FVec Ideal S1x1024x256x128 .bf16)
    (wo : FVec Ideal S32768x1024 .bf16) (i n : Fin 1024) :
    result (context v (weights (exps (scores (queries x wq) k)))) wo (ix3 0 i n)
      = ∑ t : Fin 32768, Attn.head
          (fun a d => ∑ u : Fin 1024, x (ix3 0 a u) * wq (ix2 u ⟨t.val / 128 * 128 + d.val, by omega⟩))
          (fun a d => k (ix4 0 a ⟨t.val / 128, by omega⟩ d)) (fun a d => v (ix4 0 a ⟨t.val / 128, by omega⟩ d))
          i ⟨t.val % 128, by omega⟩ * wo (ix2 t n) := by
  rw [result_at]
  refine Finset.sum_congr rfl fun t _ => ?_
  rw [context_at]
  congr 1
  unfold Attn.head
  refine Finset.sum_congr rfl fun j _ => ?_
  rw [weights_at, mul_comm]
  simp only [exps_at, scores_at, queries_at]
  rfl

set_option maxRecDepth 8192 in
/-- The reference's result is its stages in order, on its arguments. -/
theorem res_eq (m : (ℓ : Loc nD τ sig) → Buf (Elt Ideal) ℓ) (c : Dev nD) :
    res_out0 m c = result (context (m ((c.tc : Thread nD τ).loc main_arg3)) (weights (exps (scores
      (queries (m ((c.tc : Thread nD τ).loc main_arg0)) (m ((c.tc : Thread nD τ).loc main_arg1)))
      (m ((c.tc : Thread nD τ).loc main_arg2)))))) (m ((c.tc : Thread nD τ).loc main_arg4)) := rfl

end Cert.ReferenceIdeal.Stages

end
-- ==== Proof.KernValue.lean ====
/-
  What one device computes, element by element: projection, masked scores, weights, context,
  partial products, and the sums that the exchanges make of them.
-/
module

public import proofs.«01_k».proof.Proof.Ideal.Region
public import proofs.«01_k».proof.Proof.Attn

@[expose] public section

noncomputable section

namespace Cert.KernelIdeal.Stages

open Cert.KernelIdeal Cert.KernelIdeal.Gen Cert.KernelIdeal.Talk
open Idealize.ShloMosaic Idealize.ShloMosaic.TcCoe

/-- The masked scores of one head. -/
def scores (q : FVec Ideal S1024x1024 .f32) (h : Fin 8) (kb : Vec Ideal S1x1024x128 .bf16) : FVec Ideal S1024x1024 .f32 :=
  select k0_pay2 (matmul dot_S1024x128_S1024x128_S1024x1024_1_1_0_0_n_n none
    (truncf .bf16 (mulf (extractStridedSlice S1024x128 ![0, 128 * h.val] q (slices_head h)) (broadcast S1024x128 (Scalar.ofBits .f32 0x3DB504F3#32 : Ideal .f32))) bitsLt_bf16_f32)
    (shapeCast S1024x128 kb shapeCasts_S1x1024x128_S1024x128 : FVec Ideal S1024x128 .bf16) (constant S1024x1024 .f32 0x00000000#32))
    (broadcast S1024x1024 (Scalar.ofBits .f32 0xCE6E6B28#32 : Ideal .f32))

/-- The exponentials of the scores less their row's greatest. -/
def exps (s : FVec Ideal S1024x1024 .f32) : FVec Ideal S1024x1024 .f32 :=
  exp (subf s (broadcastTo S1024x1024 (shapeCast S1024x1 (multiReduction .maximumf [1] S1024 s 0xFF800000#32 reduces_S1024x1024_S1024 (.inl rfl) rfl) shapeCasts_S1024_S1024x1) broadcasts_S1024x1_S1024x1024))

/-- The weights. -/
def weights (e : FVec Ideal S1024x1024 .f32) : FVec Ideal S1024x1024 .bf16 :=
  truncf .bf16 (divf e (broadcastTo S1024x1024 (shapeCast S1024x1 (multiReduction .add [1] S1024 e 0x00000000#32 reduces_S1024x1024_S1024 (.inl rfl) rfl) shapeCasts_S1024_S1024x1) broadcasts_S1024x1_S1024x1024)) bitsLt_bf16_f32

/-- The head's context rows. -/
def context (p : FVec Ideal S1024x1024 .bf16) (vb : Vec Ideal S1x1024x128 .bf16) : FVec Ideal S1024x128 .bf16 :=
  shapeCast S1024x128 (truncf .bf16 (matmul dot_S1024x1024_S1024x128_S1024x128_1_0_0_1_n_n none p (shapeCast S1024x128 vb shapeCasts_S1x1024x128_S1024x128 : FVec Ideal S1024x128 .bf16) (constant S1024x128 .f32 0x00000000#32)) bitsLt_bf16_f32) shapeCasts_S1024x128_S1024x128

/-- One head's context is the stages in order. -/
theorem headVal_eq (q : FVec Ideal S1024x1024 .f32) (h : Fin 8) (kb vb : Vec Ideal S1x1024x128 .bf16) :
    headVal q h kb vb = context (weights (exps (scores q h kb))) vb := rfl

/-! ## Read at an index -/

/-- A query is a row of the input times a column of the projection. -/
theorem queries_at (x wq : Vec Ideal S1024x1024 .bf16) (i j : Fin 1024) :
    k0_pay1 x wq (ix2 i j) = ∑ t : Fin 1024, x (ix2 i t) * wq (ix2 t j) := by
  pointwise [k0_pay1]

/-- The mask at a pair of positions says whether the one sees the other. -/
theorem near_at (i j : Fin 1024) : k0_pay2 (ix2 i j) = Attn.seen i j := by
  pointwise [k0_pay2, Attn.seen]

/-- A score is the masked, scaled product of a query with a key. -/
theorem scores_at (q : FVec Ideal S1024x1024 .f32) (h : Fin 8) (kb : Vec Ideal S1x1024x128 .bf16) (i j : Fin 1024) :
    scores q h kb (ix2 i j) = Attn.score (fun a d => q (ix2 a ⟨128 * h.val + d.val, by omega⟩)) (fun a d => kb (ix3 0 a d)) i j := by
  unfold Attn.score
  rw [Attn.sum_scale]
  pointwise [scores, near_at, Attn.scale]
  congr 1
  exact Finset.sum_congr rfl fun t _ => mul_right_comm _ _ _

/-- An exponential is taken of a score less its row's largest. -/
theorem exps_at (s : FVec Ideal S1024x1024 .f32) (i j : Fin 1024) : exps s (ix2 i j) = Attn.expo (fun t => s (ix2 i t)) j := by
  pointwise [exps, Attn.expo]

/-- A weight is an exponential over its row's sum. -/
theorem weights_at (e : FVec Ideal S1024x1024 .f32) (i j : Fin 1024) :
    weights e (ix2 i j) = Ideal.div (e (ix2 i j)) (∑ t, e (ix2 i t)) := by
  pointwise [weights]

/-- A context entry is a row of weights times a column of values. -/
theorem context_at (p : FVec Ideal S1024x1024 .bf16) (vb : Vec Ideal S1x1024x128 .bf16) (i : Fin 1024) (d : Fin 128) :
    context p vb (ix2 i d) = ∑ j : Fin 1024, p (ix2 i j) * vb (ix3 0 j d) := by
  pointwise [context]

/-- A partial product is a row of the context times a column of the output projection. -/
theorem part_at (x wo : Vec Ideal S1024x1024 .bf16) (b r : Fin 32) (n : Fin 1024) :
    k0_pay19 x wo (ix3 b r n) = ∑ t : Fin 1024, x (ix2 ⟨b.val * 32 + r.val, by omega⟩ t) * wo (ix2 t n) := by
  pointwise [k0_pay19]

/-- A device's own partial rows start its sum unchanged. -/
theorem own_at (v : Vec Ideal S1x32x1024 .bf16) (r : Fin 32) (n : Fin 1024) : k0_pay20 v (ix2 r n) = v (ix3 0 r n) := by
  pointwise [k0_pay20]

/-- A received block is added to the sum, entry by entry. -/
theorem add_at (a : FVec Ideal S32x1024 .f32) (v : Vec Ideal S1x32x1024 .bf16) (r : Fin 32) (n : Fin 1024) :
    k0_pay35 a v (ix2 r n) = a (ix2 r n) + v (ix3 0 r n) := by
  pointwise [k0_pay35]

/-- The sum with its last block added is what the device sends. -/
theorem send_at (a : FVec Ideal S32x1024 .f32) (v : Vec Ideal S1x32x1024 .bf16) (r : Fin 32) (n : Fin 1024) :
    k0_pay36 a v (ix2 r n) = a (ix2 r n) + v (ix3 0 r n) := by
  pointwise [k0_pay36, k0_pay35]

/-- The device's own rows go to the result unchanged. -/
theorem put_own_at (a : FVec Ideal S32x1024 .f32) (r : Fin 32) (n : Fin 1024) : k0_pay37 a (ix3 0 r n) = a (ix2 r n) := by
  pointwise [k0_pay37]

/-- Gathered rows go to the result unchanged. -/
theorem put_at (v : Vec Ideal S1x32x1024 .bf16) (r : Fin 32) (n : Fin 1024) : k0_pay38 v (ix3 0 r n) = v (ix3 0 r n) := by
  pointwise [k0_pay38]

/-- One head's context on a device. -/
theorem headVal_at (q : FVec Ideal S1024x1024 .f32) (h : Fin 8) (kb vb : Vec Ideal S1x1024x128 .bf16) (i : Fin 1024) (d : Fin 128) :
    headVal q h kb vb (ix2 i d) = Attn.head (fun a d => q (ix2 a ⟨128 * h.val + d.val, by omega⟩)) (fun a d => kb (ix3 0 a d)) (fun a d => vb (ix3 0 a d)) i d := by
  rw [headVal_eq, context_at]
  unfold Attn.head
  refine Finset.sum_congr rfl fun j _ => ?_
  rw [weights_at]
  simp only [exps_at, scores_at]
  rfl

/-! ## The exchanges -/

/-- The two ways of writing a pair index agree. -/
theorem ix2_eq {a b : ℕ} (i : Fin a) (j : Fin b) : ValueIdx.ix2 i j = ix2 i j := by
  funext k; match k with | ⟨0, _⟩ => rfl | ⟨1, _⟩ => rfl
/-- The two ways of writing a triple index agree. -/
theorem ix3_eq {a b c : ℕ} (i : Fin a) (j : Fin b) (k : Fin c) : ValueIdx.ix3 i j k = ix3 i j k := by
  funext l; match l with | ⟨0, _⟩ => rfl | ⟨1, _⟩ => rfl | ⟨2, _⟩ => rfl

variable (I : Dev nD → Ins Ideal)

/-- A device's context: column `t` belongs to head `t / 128`. -/
theorem CTX_at (i : Ins Ideal) (a t : Fin 1024) :
    CTX i (ix2 a t) = Attn.head
      (fun a d => ∑ u : Fin 1024, i.x (ix2 a u) * i.wq (ix2 u ⟨128 * (t.val / 128) + d.val, by omega⟩))
      (fun a d => i.k (ix3 ⟨t.val / 128, by omega⟩ a d)) (fun a d => i.v (ix3 ⟨t.val / 128, by omega⟩ a d)) a ⟨t.val % 128, by omega⟩ := by
  show headVal (k0_pay1 i.x i.wq) (hOf (ix2 a t)) (headOf i.k (hOf (ix2 a t))) (headOf i.v (hOf (ix2 a t))) (ValueIdx.ix2 a (lOf (ix2 a t))) = _
  rw [ix2_eq, headVal_at]
  simp only [queries_at, headOf, ix3_eq]
  rfl

/-- A device's partial products. -/
theorem PP_at (c : Dev nD) (b r : Fin 32) (n : Fin 1024) :
    PP I c (ix3 b r n) = ∑ t : Fin 1024, CTX (I c) (ix2 ⟨b.val * 32 + r.val, by omega⟩ t) * (I c).wo (ix2 t n) :=
  part_at _ _ b r n

/-- The rows received so far, summed onto the device's own. -/
theorem redN_at (c : Dev nD) (r : Fin 32) (n : Fin 1024) (k : ℕ) :
    redN I c k (ix2 r n) = PP I c (ix3 c r n) + ∑ s ∈ Finset.range k, PP I (nxt c (Fin.ofNat 31 s)) (ix3 c r n) := by
  induction k with
  | zero =>
    show k0_pay20 (blockOf (PP I c) c) (ix2 r n) = _
    rw [own_at, Finset.range_zero, Finset.sum_empty, add_zero]
    show PP I c (ValueIdx.ix3 c r n) = _
    rw [ix3_eq]
  | succ k ih =>
    show k0_pay35 (redN I c k) (slotOf (RS (PP I) c) k) (ix2 r n) = _
    rw [add_at, ih, Finset.sum_range_succ, add_assoc]
    congr 2

/-- Own rows and the 31 neighbours' are all devices' rows. -/
theorem sum_all (c : Dev nD) (f : Dev nD → EReal) : f c + ∑ s ∈ Finset.range 31, f (nxt c (Fin.ofNat 31 s)) = ∑ d, f d := by
  rw [← Finset.add_sum_erase _ f (Finset.mem_univ c)]
  congr 1
  refine Finset.sum_bij (fun s _ => nxt c (Fin.ofNat 31 s)) (fun s _ => Finset.mem_erase.mpr ⟨nxt_ne _ _, Finset.mem_univ _⟩) ?_ ?_ (fun _ _ => rfl)
  · intro a ha b hb h
    have e := congrArg Fin.val (nxt_inj c h)
    have ha' := Finset.mem_range.mp ha
    have hb' := Finset.mem_range.mp hb
    simp only [Fin.ofNat, Nat.mod_eq_of_lt ha', Nat.mod_eq_of_lt hb'] at e
    exact e
  · intro d hd
    obtain ⟨i, hi⟩ := exists_nxt c d (Finset.ne_of_mem_erase hd)
    exact ⟨i.val, Finset.mem_range.mpr i.isLt, by rw [← hi]; congr 1; exact Fin.ext (Nat.mod_eq_of_lt i.isLt)⟩

/-- The reduced rows: the sum of all devices' partial rows. -/
theorem MM_at (c : Dev nD) (r : Fin 32) (n : Fin 1024) : MM I c (ix2 r n) = ∑ d, PP I d (ix3 c r n) := by
  rw [← sum_all c fun d => PP I d (ix3 c r n), ← redN_at]
  show k0_pay36 (redN I c 30) (slotOf (RS (PP I) c) 30) (ix2 r n) = k0_pay35 (redN I c 30) (slotOf (RS (PP I) c) 30) (ix2 r n)
  rw [send_at, add_at]

/-- Each device ends with the sum of all devices' partial products. -/
theorem OUT_at (c : Dev nD) (b r : Fin 32) (n : Fin 1024) : OUT I c (ix3 b r n) = ∑ d, PP I d (ix3 b r n) := by
  show (if b.val = c.val then k0_pay37 (redN I c 31) (ValueIdx.ix3 0 r n) else k0_pay38 (fun y => MM I b (ValueIdx.ix2 (y 1) (y 2))) (ValueIdx.ix3 0 r n)) = _
  rw [ix3_eq]
  split
  · next h =>
    have e : b = c := Fin.ext h
    subst e
    rw [put_own_at, redN_at]
    exact sum_all b fun d => PP I d (ix3 b r n)
  · rw [put_at]
    show MM I b (ValueIdx.ix2 r n) = _
    rw [ix2_eq, MM_at]

end Cert.KernelIdeal.Stages

end
-- ==== Proof.Inputs.lean ====
/-
  What the host hands each device: its rows of the arguments, its eight heads of keys and values.
-/
module

public import proofs.«01_k».proof.Proof.Ideal.Region
public import Idealize.ShloMosaic.Lib.Pointwise
public import Idealize.ShloMosaic.Lib.StableHlo.ReadAt

@[expose] public section

noncomputable section

namespace Cert.KernelIdeal.Stages

open Cert.KernelIdeal Cert.KernelIdeal.Gen Cert.KernelIdeal.Talk
open Idealize.ShloMosaic Idealize.ShloMosaic.TcCoe

variable (m : (ℓ : Loc nD τ sig) → Buf (Elt Ideal) ℓ) (c : Dev nD)

/-- A device is handed the whole input. -/
theorem x_at (i t : Fin 1024) : (ins m c).x (ix2 i t) = (m ((c.tc : Thread nD τ).loc main_arg0) : FVec Ideal S1x1024x1024 .bf16) (ix3 0 i t) := by
  show StableHlo.after (hostOps0 c) (V0 m c) (Proc.devRef .tc main_v5) (ix2 i t) = _
  after_reads_at

/-- A device is handed its block of the query projection. -/
theorem wq_eq : (ins m c).wq = m ((c.tc : Thread nD τ).loc main_arg1) := V1_of m c main_arg1 (by decide)

/-- A device is handed its block of the output projection. -/
theorem wo_eq : (ins m c).wo = m ((c.tc : Thread nD τ).loc main_arg4) := V1_of m c main_arg4 (by decide)

/-- A slice of eight heads that starts at head `8 c`. -/
theorem slice_at (f : FVec Ideal S1x1024x256x128 .bf16) (w : Fin S1024x256x128.rank → Int) (h0 : w 0 = 0) (h1 : w 1 = 8 * c.val) (h2 : w 2 = 0)
    (h : Fin 8) (j : Fin 1024) (d : Fin 128) (a0 a1 a2) :
    f (ix4 0 ⟨Host.clampedStart S1024x256x128 S1024x8x128 rfl w 0 + j.val, a0⟩
        ⟨Host.clampedStart S1024x256x128 S1024x8x128 rfl w 1 + h.val, a1⟩
        ⟨Host.clampedStart S1024x256x128 S1024x8x128 rfl w 2 + d.val, a2⟩)
      = f (ix4 0 j ⟨8 * c.val + h.val, by have : c.val < 32 := c.isLt; omega⟩ d) := by
  have hc : c.val < 32 := c.isLt
  have e0 : Host.clampedStart S1024x256x128 S1024x8x128 rfl w 0 = 0 := by
    unfold Host.clampedStart; rw [h0]; rfl
  have e1 : Host.clampedStart S1024x256x128 S1024x8x128 rfl w 1 = 8 * c.val := by
    unfold Host.clampedStart; rw [h1]; show (min (max (8 * (c.val : Int)) 0) ((248 : ℕ) : Int)).toNat = 8 * c.val; omega
  have e2 : Host.clampedStart S1024x256x128 S1024x8x128 rfl w 2 = 0 := by
    unfold Host.clampedStart; rw [h2]; rfl
  congr 2 <;> apply Fin.ext
  · show _ + j.val = j.val; rw [e0, Nat.zero_add]
  · show _ + h.val = 8 * c.val + h.val; rw [e1]
  · show _ + d.val = d.val; rw [e2, Nat.zero_add]

/-- A device's own number, as the host computes it. -/
def me : BitVec 32 := (id (Host.remui (Host.divui (constantI S_ 32 (Dev.word c)) (constantI S_ 32 1#32)) (constantI S_ 32 32#32)) : IVec S_ 32) (Shape.Idx.first h_S_)

/-- The device's number, as a word, is its place in the mesh. -/
theorem me_eq : me c = BitVec.ofNat 32 c.val := by
  revert c; decide +kernel

/-- The number of a device's first head, as the host computes it, read as an integer. -/
theorem start_word : (Scalar.select (IntOp.cmpi CmpIPredicate.slt (IntOp.muli (me c) 8#32) 0#32)
    (IntOp.addi (IntOp.muli (me c) 8#32) 256#32) (IntOp.muli (me c) 8#32)).toInt = 8 * c.val := by
  rw [me_eq]
  revert c; decide +kernel

/-- A device is handed the keys of its eight heads. -/
theorem k_at (h : Fin 8) (j : Fin 1024) (d : Fin 128) : (ins m c).k (ix3 h j d)
    = (m ((c.tc : Thread nD τ).loc main_arg2) : FVec Ideal S1x1024x256x128 .bf16) (ix4 0 j ⟨8 * c.val + h.val, by have : c.val < 32 := c.isLt; omega⟩ d) := by
  show StableHlo.after (hostOps0 c) (V0 m c) (Proc.devRef .tc main_v18) (ix3 h j d) = _
  after_reads_at
  refine slice_at c _ _ ?_ ?_ ?_ h j d _ _ _
  · show BitVec.toInt (StableHlo.upto (hostOps0 c) (V0 m c) 17 (Proc.devRef .tc main_c_4) (Shape.Idx.first h_S_)) = 0
    after_reads_at
    rfl
  · show BitVec.toInt (StableHlo.upto (hostOps0 c) (V0 m c) 17 (Proc.devRef .tc main_v10) (Shape.Idx.first h_S_)) = _
    after_reads_at
    exact start_word c
  · show BitVec.toInt (StableHlo.upto (hostOps0 c) (V0 m c) 17 (Proc.devRef .tc main_c_5) (Shape.Idx.first h_S_)) = 0
    after_reads_at
    rfl

/-- A device is handed the values of its eight heads. -/
theorem v_at (h : Fin 8) (j : Fin 1024) (d : Fin 128) : (ins m c).v (ix3 h j d)
    = (m ((c.tc : Thread nD τ).loc main_arg3) : FVec Ideal S1x1024x256x128 .bf16) (ix4 0 j ⟨8 * c.val + h.val, by have : c.val < 32 := c.isLt; omega⟩ d) := by
  show StableHlo.after (hostOps0 c) (V0 m c) (Proc.devRef .tc main_v19) (ix3 h j d) = _
  after_reads_at
  refine slice_at c _ _ ?_ ?_ ?_ h j d _ _ _
  · show BitVec.toInt (StableHlo.upto (hostOps0 c) (V0 m c) 28 (Proc.devRef .tc main_c_9) (Shape.Idx.first h_S_)) = 0
    after_reads_at
    rfl
  · show BitVec.toInt (StableHlo.upto (hostOps0 c) (V0 m c) 28 (Proc.devRef .tc main_v16) (Shape.Idx.first h_S_)) = _
    after_reads_at
    exact start_word c
  · show BitVec.toInt (StableHlo.upto (hostOps0 c) (V0 m c) 28 (Proc.devRef .tc main_c_10) (Shape.Idx.first h_S_)) = 0
    after_reads_at
    rfl

/-- The result, by rows, is the gathered blocks. -/
theorem res_at (i n : Fin 1024) : (V3 m (outs m) c main_v21 : FVec Ideal S1x1024x1024 .f32) (ix3 0 i n) = OUT (ins m) c (ix3 ⟨i.val / 32, by omega⟩ ⟨i.val % 32, by omega⟩ n) := by
  rw [← outs_v20 m c]
  show StableHlo.after hostOps1 (V2 m (outs m) c) (Proc.devRef .tc main_v21) (ix3 0 i n) = _
  after_reads_at
  exact congrFun (Function.update_self ..) _

end Cert.KernelIdeal.Stages

end
-- ==== Proof.Equal.lean ====
/-
  The equation: what every device ends with is what the reference computes.
-/
module

public import proofs.«01_k».proof.Defs
public import proofs.«01_k».proof.Proof.Ideal.Run
public import proofs.«01_k».proof.Proof.Gen.ReferenceIdeal.Run
public import proofs.«01_k».proof.Proof.RefValue
public import proofs.«01_k».proof.Proof.KernValue
public import proofs.«01_k».proof.Proof.Inputs
public import Idealize.ShloMosaic.Lib.LayoutAt

@[expose] public section

noncomputable section

namespace Cert.Equal

open Cert.KernelIdeal.Talk Cert.KernelIdeal.Stages
open Idealize.ShloMosaic Idealize.ShloMosaic.TcCoe Idealize.SL.Sem

/-- A device's block of the query projection is its 1024 columns. -/
theorem cols_at (c : Fin 32) (X : (⟨2, ![1024, 32768]⟩ : Shape).Idx → EReal) (u v : Fin 1024) :
    Layout.block ⟨2, ![1024, 1024]⟩ ⟨2, ![1024, 32768]⟩ 1 32 c X (by decide) (ix2 u v) = X (ix2 u ⟨c.val * 1024 + v.val, by omega⟩) := by
  rw [Layout.block_apply]
  congr 1
  shard_ext

/-- A device's block of the output projection is its 1024 rows. -/
theorem rows_at (c : Fin 32) (X : (⟨2, ![32768, 1024]⟩ : Shape).Idx → EReal) (u v : Fin 1024) :
    Layout.block ⟨2, ![1024, 1024]⟩ ⟨2, ![32768, 1024]⟩ 0 32 c X (by decide) (ix2 u v) = X (ix2 ⟨c.val * 1024 + u.val, by omega⟩ v) := by
  rw [Layout.block_apply]
  congr 1
  shard_ext

variable (m : (ℓ : Loc Cert.KernelIdeal.nD Cert.KernelIdeal.τ Cert.KernelIdeal.sig) → Buf (Elt Ideal) ℓ)
  (x : FVec Ideal Cert.ReferenceIdeal.S1x1024x1024 .bf16) (wq : FVec Ideal Cert.ReferenceIdeal.S1024x32768 .bf16)
  (k v : FVec Ideal Cert.ReferenceIdeal.S1x1024x256x128 .bf16) (wo : FVec Ideal Cert.ReferenceIdeal.S32768x1024 .bf16)

/-- The devices' arguments are their parts of the whole arrays. -/
structure Parts : Prop where
  x : ∀ c : Dev Cert.KernelIdeal.nD, m ((c.tc : Thread _ Cert.KernelIdeal.τ).loc Cert.KernelIdeal.main_arg0) = x
  wq : ∀ c : Dev Cert.KernelIdeal.nD, m ((c.tc : Thread _ Cert.KernelIdeal.τ).loc Cert.KernelIdeal.main_arg1) = Layout.block ⟨2, ![1024, 1024]⟩ ⟨2, ![1024, 32768]⟩ 1 32 c wq
  k : ∀ c : Dev Cert.KernelIdeal.nD, m ((c.tc : Thread _ Cert.KernelIdeal.τ).loc Cert.KernelIdeal.main_arg2) = k
  v : ∀ c : Dev Cert.KernelIdeal.nD, m ((c.tc : Thread _ Cert.KernelIdeal.τ).loc Cert.KernelIdeal.main_arg3) = v
  wo : ∀ c : Dev Cert.KernelIdeal.nD, m ((c.tc : Thread _ Cert.KernelIdeal.τ).loc Cert.KernelIdeal.main_arg4) = Layout.block ⟨2, ![1024, 1024]⟩ ⟨2, ![32768, 1024]⟩ 0 32 c wo

variable {m x wq k v wo}

/-- A device's context columns are the reference's columns of its heads. -/
theorem context_part (h : Parts m x wq k v wo) (c : Dev Cert.KernelIdeal.nD) (i t : Fin 1024) (T : Fin 32768) (hT : T.val = c.val * 1024 + t.val) :
    CTX (ins m c) (ix2 i t) = Attn.head
          (fun a d => ∑ u : Fin 1024, x (ix3 0 a u) * wq (ix2 u ⟨T.val / 128 * 128 + d.val, by omega⟩))
          (fun a d => k (ix4 0 a ⟨T.val / 128, by omega⟩ d)) (fun a d => v (ix4 0 a ⟨T.val / 128, by omega⟩ d))
          i ⟨T.val % 128, by omega⟩ := by
  rw [CTX_at]
  have eq : (fun (a : Fin 1024) (d : Fin 128) => ∑ u : Fin 1024, (ins m c).x (ix2 a u) * (ins m c).wq (ix2 u ⟨128 * (t.val / 128) + d.val, by omega⟩))
      = fun a d => ∑ u : Fin 1024, x (ix3 0 a u) * wq (ix2 u ⟨T.val / 128 * 128 + d.val, by omega⟩) := by
    funext a d
    refine Finset.sum_congr rfl fun u _ => ?_
    rw [x_at, wq_eq, h.x, h.wq]
    refine congrArg _ ((cols_at c wq u _).trans ?_)
    congr 2
    apply Fin.ext
    show c.val * 1024 + (128 * (t.val / 128) + d.val) = T.val / 128 * 128 + d.val
    omega
  have ek : (fun (a : Fin 1024) (d : Fin 128) => (ins m c).k (ix3 ⟨t.val / 128, by omega⟩ a d)) = fun a d => k (ix4 0 a ⟨T.val / 128, by omega⟩ d) := by
    funext a d
    rw [k_at, h.k]
    congr 2
    apply Fin.ext
    show 8 * c.val + t.val / 128 = T.val / 128
    omega
  have ev : (fun (a : Fin 1024) (d : Fin 128) => (ins m c).v (ix3 ⟨t.val / 128, by omega⟩ a d)) = fun a d => v (ix4 0 a ⟨T.val / 128, by omega⟩ d) := by
    funext a d
    rw [v_at, h.v]
    congr 2
    apply Fin.ext
    show 8 * c.val + t.val / 128 = T.val / 128
    omega
  rw [eq, ek, ev]
  congr 1
  apply Fin.ext
  show t.val % 128 = T.val % 128
  omega

open Cert.ReferenceIdeal.Stages in
/-- Every device's result is the reference's. -/
theorem value (h : Parts m x wq k v wo) (c : Dev Cert.KernelIdeal.nD) :
    (Cert.KernelIdeal.Gen.V3 m (outs m) c Cert.KernelIdeal.main_v21 : FVec Ideal Cert.KernelIdeal.S1x1024x1024 .f32)
      = result (context v (weights (exps (scores (queries x wq) k)))) wo := by
  funext j
  obtain ⟨a, i, n, rfl⟩ : ∃ (a : Fin 1) (i n : Fin 1024), j = ix3 a i n := ⟨j 0, j 1, j 2, eq_ix3 j⟩
  obtain rfl : a = 0 := Subsingleton.elim _ _
  rw [value_at, Attn.sum_blocks, res_at, OUT_at]
  refine Finset.sum_congr (M := EReal) rfl fun d _ => ?_
  rw [PP_at]
  refine Finset.sum_congr rfl fun t _ => ?_
  rw [show (⟨(⟨i.val / 32, by omega⟩ : Fin 32).val * 32 + (⟨i.val % 32, by omega⟩ : Fin 32).val, by simp only []; omega⟩ : Fin 1024) = i from Fin.ext (by simp only []; omega),
    context_part h d i t ⟨d.val * 1024 + t.val, by have : d.val < 32 := d.isLt; omega⟩ rfl, wo_eq, h.wo]
  exact congrArg _ (rows_at d wo t n)

end Cert.Equal

namespace Cert.Proof

open Idealize.ShloMosaic Idealize.SL.Sem

/-- From arguments that are the parts of the reference's, every device ends with the reference's result. -/
theorem equal : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono (fun _ r c => ⟨(r.1 c).1.trans ((Cert.Equal.value
        ⟨fun c => (h c).1, fun c => (h c).2.1, fun c => (h c).2.2.1, fun c => (h c).2.2.2.1, fun c => (h c).2.2.2.2⟩ c).trans
          (Cert.ReferenceIdeal.Stages.res_eq m' 0).symm), (r.1 c).2⟩) (Cert.KernelIdeal.Talk.run_main m g),
    (θ_run Cert.ReferenceIdeal.defs _ _).mono (fun _ r => r 0) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  quiet_kernel, quiet_ideal, quiet_reference, trivial, equal⟩

end Cert.Proof

end
